-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x2048 : Shape := ⟨2, ![4096, 2048]⟩
abbrev S4096x256 : Shape := ⟨2, ![4096, 256]⟩
abbrev S2x4096x256 : Shape := ⟨3, ![2, 4096, 256]⟩
abbrev S8x512x256 : Shape := ⟨3, ![8, 512, 256]⟩
abbrev S1x128 : Shape := ⟨2, ![1, 128]⟩
abbrev S8x128 : Shape := ⟨2, ![8, 128]⟩
abbrev S2 : Shape := ⟨1, ![2]⟩
abbrev S8 : Shape := ⟨1, ![8]⟩
abbrev S_ : Shape := ⟨0, ![]⟩
abbrev S1 : Shape := ⟨1, ![1]⟩
abbrev S1x4096x256 : Shape := ⟨3, ![1, 4096, 256]⟩
abbrev S512x256 : Shape := ⟨2, ![512, 256]⟩
abbrev S1x512x256 : Shape := ⟨3, ![1, 512, 256]⟩
abbrev S1x1x1 : Shape := ⟨3, ![1, 1, 1]⟩
abbrev S128 : Shape := ⟨1, ![128]⟩
abbrev S1x1 : Shape := ⟨2, ![1, 1]⟩

abbrev nBuf : Space → Nat
  | .hbm => 3
  | .vmem => 7
  | .smem => 0
  | _ => 0

abbrev bufTy : (tb : Table) → Fin (tcTables nBuf tb) → BufTy
  | .hbm, ⟨0, _⟩ => ⟨S512x4096, .f32⟩
  | .hbm, ⟨1, _⟩ => ⟨S4096x2048, .f32⟩
  | .hbm, ⟨2, _⟩ => ⟨S4096x256, .f32⟩
  | .local _ .vmem, ⟨0, _⟩ => ⟨S512x4096, .f32⟩
  | .local _ .vmem, ⟨1, _⟩ => ⟨S4096x256, .f32⟩
  | .local _ .vmem, ⟨2, _⟩ => ⟨S2x4096x256, .f32⟩
  | .local _ .vmem, ⟨3, _⟩ => ⟨S8x512x256, .bf16⟩
  | .local _ .vmem, ⟨4, _⟩ => ⟨S8x512x256, .bf16⟩
  | .local _ .vmem, ⟨5, _⟩ => ⟨S1x128, .f32⟩
  | .local _ .vmem, ⟨6, _⟩ => ⟨S8x128, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c0_i32_64 : BitVec 32) : Fin 2 → Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_63 : BitVec 32 := 1#32
  let v95 : BitVec 32 := Scalar.addi v2 c1_i32_63
  let v96 : BitVec 32 := Scalar.addi v95 c0_i32_64
  let c8_i32_65 : BitVec 32 := 8#32
  let c0_i32_66 : BitVec 32 := 0#32
  let v97 : BitVec 1 := Scalar.cmpi .eq c8_i32_65 c0_i32_66
  let c1_i32_67 : BitVec 32 := 1#32
  let v98 : BitVec 32 := Scalar.select v97 c1_i32_67 c8_i32_65
  let v99 : BitVec 32 := Scalar.remsi v96 v98
  let c0_i32_69 : BitVec 32 := 0#32
  let v101 : BitVec 1 := Scalar.cmpi .slt v99 c0_i32_69
  let c0_i32_70 : BitVec 32 := 0#32
  let v102 : BitVec 1 := Scalar.cmpi .slt v98 c0_i32_70
  let v103 : BitVec 1 := Scalar.xori v101 v102
  let c0_i32_68 : BitVec 32 := 0#32
  let v100 : BitVec 1 := Scalar.cmpi .ne v99 c0_i32_68
  let v104 : BitVec 1 := Scalar.andi v103 v100
  let v105 : BitVec 32 := Scalar.addi v99 v98
  let v106 : BitVec 32 := Scalar.select v104 v105 v99
  let c256_i32 : BitVec 32 := 256#32
  let v107 : BitVec 32 := Scalar.muli v106 c256_i32
  ![0, v107.toNat]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_127 : BitVec 32 := 0#32
  let c0_i32_128 : BitVec 32 := 0#32
  ![v2.toNat, 0, 0]
def k0_dev8 (d0 : Dev nD) : Nat :=
  let c0_i32_126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_115 : BitVec 32 := 1#32
  let v165 : BitVec 32 := Scalar.addi v2 c1_i32_115
  let c0_i32_116 : BitVec 32 := 0#32
  let v166 : BitVec 32 := Scalar.addi v165 c0_i32_116
  let c8_i32_117 : BitVec 32 := 8#32
  let c0_i32_118 : BitVec 32 := 0#32
  let v167 : BitVec 1 := Scalar.cmpi .eq c8_i32_117 c0_i32_118
  let c1_i32_119 : BitVec 32 := 1#32
  let v168 : BitVec 32 := Scalar.select v167 c1_i32_119 c8_i32_117
  let v169 : BitVec 32 := Scalar.remsi v166 v168
  let c0_i32_121 : BitVec 32 := 0#32
  let v171 : BitVec 1 := Scalar.cmpi .slt v169 c0_i32_121
  let c0_i32_122 : BitVec 32 := 0#32
  let v172 : BitVec 1 := Scalar.cmpi .slt v168 c0_i32_122
  let v173 : BitVec 1 := Scalar.xori v171 v172
  let c0_i32_120 : BitVec 32 := 0#32
  let v170 : BitVec 1 := Scalar.cmpi .ne v169 c0_i32_120
  let v174 : BitVec 1 := Scalar.andi v173 v170
  let v175 : BitVec 32 := Scalar.addi v169 v168
  let v176 : BitVec 32 := Scalar.select v174 v175 v169
  let c1_i32_125 : BitVec 32 := 1#32
  let v177 : BitVec 32 := Scalar.muli v176 c1_i32_125
  let v178 : BitVec 32 := Scalar.addi c0_i32_126 v177
  v178.toNat
def k0_dev9 (d0 : Dev nD) : Nat :=
  let c0_i32_180 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_169 : BitVec 32 := 1#32
  let v239 : BitVec 32 := Scalar.addi v2 c1_i32_169
  let c1_i32_170 : BitVec 32 := 1#32
  let v240 : BitVec 32 := Scalar.addi v239 c1_i32_170
  let c8_i32_171 : BitVec 32 := 8#32
  let c0_i32_172 : BitVec 32 := 0#32
  let v241 : BitVec 1 := Scalar.cmpi .eq c8_i32_171 c0_i32_172
  let c1_i32_173 : BitVec 32 := 1#32
  let v242 : BitVec 32 := Scalar.select v241 c1_i32_173 c8_i32_171
  let v243 : BitVec 32 := Scalar.remsi v240 v242
  let c0_i32_175 : BitVec 32 := 0#32
  let v245 : BitVec 1 := Scalar.cmpi .slt v243 c0_i32_175
  let c0_i32_176 : BitVec 32 := 0#32
  let v246 : BitVec 1 := Scalar.cmpi .slt v242 c0_i32_176
  let v247 : BitVec 1 := Scalar.xori v245 v246
  let c0_i32_174 : BitVec 32 := 0#32
  let v244 : BitVec 1 := Scalar.cmpi .ne v243 c0_i32_174
  let v248 : BitVec 1 := Scalar.andi v247 v244
  let v249 : BitVec 32 := Scalar.addi v243 v242
  let v250 : BitVec 32 := Scalar.select v248 v249 v243
  let c1_i32_179 : BitVec 32 := 1#32
  let v251 : BitVec 32 := Scalar.muli v250 c1_i32_179
  let v252 : BitVec 32 := Scalar.addi c0_i32_180 v251
  v252.toNat
def k0_dev10 (d0 : Dev nD) : Nat :=
  let c0_i32_234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_223 : BitVec 32 := 1#32
  let v313 : BitVec 32 := Scalar.addi v2 c1_i32_223
  let c2_i32_224 : BitVec 32 := 2#32
  let v314 : BitVec 32 := Scalar.addi v313 c2_i32_224
  let c8_i32_225 : BitVec 32 := 8#32
  let c0_i32_226 : BitVec 32 := 0#32
  let v315 : BitVec 1 := Scalar.cmpi .eq c8_i32_225 c0_i32_226
  let c1_i32_227 : BitVec 32 := 1#32
  let v316 : BitVec 32 := Scalar.select v315 c1_i32_227 c8_i32_225
  let v317 : BitVec 32 := Scalar.remsi v314 v316
  let c0_i32_229 : BitVec 32 := 0#32
  let v319 : BitVec 1 := Scalar.cmpi .slt v317 c0_i32_229
  let c0_i32_230 : BitVec 32 := 0#32
  let v320 : BitVec 1 := Scalar.cmpi .slt v316 c0_i32_230
  let v321 : BitVec 1 := Scalar.xori v319 v320
  let c0_i32_228 : BitVec 32 := 0#32
  let v318 : BitVec 1 := Scalar.cmpi .ne v317 c0_i32_228
  let v322 : BitVec 1 := Scalar.andi v321 v318
  let v323 : BitVec 32 := Scalar.addi v317 v316
  let v324 : BitVec 32 := Scalar.select v322 v323 v317
  let c1_i32_233 : BitVec 32 := 1#32
  let v325 : BitVec 32 := Scalar.muli v324 c1_i32_233
  let v326 : BitVec 32 := Scalar.addi c0_i32_234 v325
  v326.toNat
def k0_dev11 (d0 : Dev nD) : Nat :=
  let c0_i32_288 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_277 : BitVec 32 := 1#32
  let v387 : BitVec 32 := Scalar.addi v2 c1_i32_277
  let c3_i32_278 : BitVec 32 := 3#32
  let v388 : BitVec 32 := Scalar.addi v387 c3_i32_278
  let c8_i32_279 : BitVec 32 := 8#32
  let c0_i32_280 : BitVec 32 := 0#32
  let v389 : BitVec 1 := Scalar.cmpi .eq c8_i32_279 c0_i32_280
  let c1_i32_281 : BitVec 32 := 1#32
  let v390 : BitVec 32 := Scalar.select v389 c1_i32_281 c8_i32_279
  let v391 : BitVec 32 := Scalar.remsi v388 v390
  let c0_i32_283 : BitVec 32 := 0#32
  let v393 : BitVec 1 := Scalar.cmpi .slt v391 c0_i32_283
  let c0_i32_284 : BitVec 32 := 0#32
  let v394 : BitVec 1 := Scalar.cmpi .slt v390 c0_i32_284
  let v395 : BitVec 1 := Scalar.xori v393 v394
  let c0_i32_282 : BitVec 32 := 0#32
  let v392 : BitVec 1 := Scalar.cmpi .ne v391 c0_i32_282
  let v396 : BitVec 1 := Scalar.andi v395 v392
  let v397 : BitVec 32 := Scalar.addi v391 v390
  let v398 : BitVec 32 := Scalar.select v396 v397 v391
  let c1_i32_287 : BitVec 32 := 1#32
  let v399 : BitVec 32 := Scalar.muli v398 c1_i32_287
  let v400 : BitVec 32 := Scalar.addi c0_i32_288 v399
  v400.toNat
def k0_dev12 (d0 : Dev nD) : Nat :=
  let c0_i32_342 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_331 : BitVec 32 := 1#32
  let v461 : BitVec 32 := Scalar.addi v2 c1_i32_331
  let c4_i32_332 : BitVec 32 := 4#32
  let v462 : BitVec 32 := Scalar.addi v461 c4_i32_332
  let c8_i32_333 : BitVec 32 := 8#32
  let c0_i32_334 : BitVec 32 := 0#32
  let v463 : BitVec 1 := Scalar.cmpi .eq c8_i32_333 c0_i32_334
  let c1_i32_335 : BitVec 32 := 1#32
  let v464 : BitVec 32 := Scalar.select v463 c1_i32_335 c8_i32_333
  let v465 : BitVec 32 := Scalar.remsi v462 v464
  let c0_i32_337 : BitVec 32 := 0#32
  let v467 : BitVec 1 := Scalar.cmpi .slt v465 c0_i32_337
  let c0_i32_338 : BitVec 32 := 0#32
  let v468 : BitVec 1 := Scalar.cmpi .slt v464 c0_i32_338
  let v469 : BitVec 1 := Scalar.xori v467 v468
  let c0_i32_336 : BitVec 32 := 0#32
  let v466 : BitVec 1 := Scalar.cmpi .ne v465 c0_i32_336
  let v470 : BitVec 1 := Scalar.andi v469 v466
  let v471 : BitVec 32 := Scalar.addi v465 v464
  let v472 : BitVec 32 := Scalar.select v470 v471 v465
  let c1_i32_341 : BitVec 32 := 1#32
  let v473 : BitVec 32 := Scalar.muli v472 c1_i32_341
  let v474 : BitVec 32 := Scalar.addi c0_i32_342 v473
  v474.toNat
def k0_dev13 (d0 : Dev nD) : Nat :=
  let c0_i32_396 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_385 : BitVec 32 := 1#32
  let v535 : BitVec 32 := Scalar.addi v2 c1_i32_385
  let c5_i32_386 : BitVec 32 := 5#32
  let v536 : BitVec 32 := Scalar.addi v535 c5_i32_386
  let c8_i32_387 : BitVec 32 := 8#32
  let c0_i32_388 : BitVec 32 := 0#32
  let v537 : BitVec 1 := Scalar.cmpi .eq c8_i32_387 c0_i32_388
  let c1_i32_389 : BitVec 32 := 1#32
  let v538 : BitVec 32 := Scalar.select v537 c1_i32_389 c8_i32_387
  let v539 : BitVec 32 := Scalar.remsi v536 v538
  let c0_i32_391 : BitVec 32 := 0#32
  let v541 : BitVec 1 := Scalar.cmpi .slt v539 c0_i32_391
  let c0_i32_392 : BitVec 32 := 0#32
  let v542 : BitVec 1 := Scalar.cmpi .slt v538 c0_i32_392
  let v543 : BitVec 1 := Scalar.xori v541 v542
  let c0_i32_390 : BitVec 32 := 0#32
  let v540 : BitVec 1 := Scalar.cmpi .ne v539 c0_i32_390
  let v544 : BitVec 1 := Scalar.andi v543 v540
  let v545 : BitVec 32 := Scalar.addi v539 v538
  let v546 : BitVec 32 := Scalar.select v544 v545 v539
  let c1_i32_395 : BitVec 32 := 1#32
  let v547 : BitVec 32 := Scalar.muli v546 c1_i32_395
  let v548 : BitVec 32 := Scalar.addi c0_i32_396 v547
  v548.toNat
def k0_dev14 (d0 : Dev nD) : Nat :=
  let c0_i32_450 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_439 : BitVec 32 := 1#32
  let v609 : BitVec 32 := Scalar.addi v2 c1_i32_439
  let c6_i32_440 : BitVec 32 := 6#32
  let v610 : BitVec 32 := Scalar.addi v609 c6_i32_440
  let c8_i32_441 : BitVec 32 := 8#32
  let c0_i32_442 : BitVec 32 := 0#32
  let v611 : BitVec 1 := Scalar.cmpi .eq c8_i32_441 c0_i32_442
  let c1_i32_443 : BitVec 32 := 1#32
  let v612 : BitVec 32 := Scalar.select v611 c1_i32_443 c8_i32_441
  let v613 : BitVec 32 := Scalar.remsi v610 v612
  let c0_i32_445 : BitVec 32 := 0#32
  let v615 : BitVec 1 := Scalar.cmpi .slt v613 c0_i32_445
  let c0_i32_446 : BitVec 32 := 0#32
  let v616 : BitVec 1 := Scalar.cmpi .slt v612 c0_i32_446
  let v617 : BitVec 1 := Scalar.xori v615 v616
  let c0_i32_444 : BitVec 32 := 0#32
  let v614 : BitVec 1 := Scalar.cmpi .ne v613 c0_i32_444
  let v618 : BitVec 1 := Scalar.andi v617 v614
  let v619 : BitVec 32 := Scalar.addi v613 v612
  let v620 : BitVec 32 := Scalar.select v618 v619 v613
  let c1_i32_449 : BitVec 32 := 1#32
  let v621 : BitVec 32 := Scalar.muli v620 c1_i32_449
  let v622 : BitVec 32 := Scalar.addi c0_i32_450 v621
  v622.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_493 : BitVec 32 := 0#32
  ![v2.toNat, 0]
def k0_dev15 (d0 : Dev nD) : Nat :=
  let c0_i32_492 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_481 : BitVec 32 := 1#32
  let v669 : BitVec 32 := Scalar.addi v2 c1_i32_481
  let c0_i32_482 : BitVec 32 := 0#32
  let v670 : BitVec 32 := Scalar.addi v669 c0_i32_482
  let c8_i32_483 : BitVec 32 := 8#32
  let c0_i32_484 : BitVec 32 := 0#32
  let v671 : BitVec 1 := Scalar.cmpi .eq c8_i32_483 c0_i32_484
  let c1_i32_485 : BitVec 32 := 1#32
  let v672 : BitVec 32 := Scalar.select v671 c1_i32_485 c8_i32_483
  let v673 : BitVec 32 := Scalar.remsi v670 v672
  let c0_i32_487 : BitVec 32 := 0#32
  let v675 : BitVec 1 := Scalar.cmpi .slt v673 c0_i32_487
  let c0_i32_488 : BitVec 32 := 0#32
  let v676 : BitVec 1 := Scalar.cmpi .slt v672 c0_i32_488
  let v677 : BitVec 1 := Scalar.xori v675 v676
  let c0_i32_486 : BitVec 32 := 0#32
  let v674 : BitVec 1 := Scalar.cmpi .ne v673 c0_i32_486
  let v678 : BitVec 1 := Scalar.andi v677 v674
  let v679 : BitVec 32 := Scalar.addi v673 v672
  let v680 : BitVec 32 := Scalar.select v678 v679 v673
  let c1_i32_491 : BitVec 32 := 1#32
  let v681 : BitVec 32 := Scalar.muli v680 c1_i32_491
  let v682 : BitVec 32 := Scalar.addi c0_i32_492 v681
  v682.toNat
def k0_dev16 (d0 : Dev nD) : Nat :=
  let c0_i32_506 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_495 : BitVec 32 := 1#32
  let v691 : BitVec 32 := Scalar.addi v2 c1_i32_495
  let c1_i32_496 : BitVec 32 := 1#32
  let v692 : BitVec 32 := Scalar.addi v691 c1_i32_496
  let c8_i32_497 : BitVec 32 := 8#32
  let c0_i32_498 : BitVec 32 := 0#32
  let v693 : BitVec 1 := Scalar.cmpi .eq c8_i32_497 c0_i32_498
  let c1_i32_499 : BitVec 32 := 1#32
  let v694 : BitVec 32 := Scalar.select v693 c1_i32_499 c8_i32_497
  let v695 : BitVec 32 := Scalar.remsi v692 v694
  let c0_i32_501 : BitVec 32 := 0#32
  let v697 : BitVec 1 := Scalar.cmpi .slt v695 c0_i32_501
  let c0_i32_502 : BitVec 32 := 0#32
  let v698 : BitVec 1 := Scalar.cmpi .slt v694 c0_i32_502
  let v699 : BitVec 1 := Scalar.xori v697 v698
  let c0_i32_500 : BitVec 32 := 0#32
  let v696 : BitVec 1 := Scalar.cmpi .ne v695 c0_i32_500
  let v700 : BitVec 1 := Scalar.andi v699 v696
  let v701 : BitVec 32 := Scalar.addi v695 v694
  let v702 : BitVec 32 := Scalar.select v700 v701 v695
  let c1_i32_505 : BitVec 32 := 1#32
  let v703 : BitVec 32 := Scalar.muli v702 c1_i32_505
  let v704 : BitVec 32 := Scalar.addi c0_i32_506 v703
  v704.toNat
def k0_dev17 (d0 : Dev nD) : Nat :=
  let c0_i32_520 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_509 : BitVec 32 := 1#32
  let v713 : BitVec 32 := Scalar.addi v2 c1_i32_509
  let c2_i32_510 : BitVec 32 := 2#32
  let v714 : BitVec 32 := Scalar.addi v713 c2_i32_510
  let c8_i32_511 : BitVec 32 := 8#32
  let c0_i32_512 : BitVec 32 := 0#32
  let v715 : BitVec 1 := Scalar.cmpi .eq c8_i32_511 c0_i32_512
  let c1_i32_513 : BitVec 32 := 1#32
  let v716 : BitVec 32 := Scalar.select v715 c1_i32_513 c8_i32_511
  let v717 : BitVec 32 := Scalar.remsi v714 v716
  let c0_i32_515 : BitVec 32 := 0#32
  let v719 : BitVec 1 := Scalar.cmpi .slt v717 c0_i32_515
  let c0_i32_516 : BitVec 32 := 0#32
  let v720 : BitVec 1 := Scalar.cmpi .slt v716 c0_i32_516
  let v721 : BitVec 1 := Scalar.xori v719 v720
  let c0_i32_514 : BitVec 32 := 0#32
  let v718 : BitVec 1 := Scalar.cmpi .ne v717 c0_i32_514
  let v722 : BitVec 1 := Scalar.andi v721 v718
  let v723 : BitVec 32 := Scalar.addi v717 v716
  let v724 : BitVec 32 := Scalar.select v722 v723 v717
  let c1_i32_519 : BitVec 32 := 1#32
  let v725 : BitVec 32 := Scalar.muli v724 c1_i32_519
  let v726 : BitVec 32 := Scalar.addi c0_i32_520 v725
  v726.toNat
def k0_dev18 (d0 : Dev nD) : Nat :=
  let c0_i32_534 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_523 : BitVec 32 := 1#32
  let v735 : BitVec 32 := Scalar.addi v2 c1_i32_523
  let c3_i32_524 : BitVec 32 := 3#32
  let v736 : BitVec 32 := Scalar.addi v735 c3_i32_524
  let c8_i32_525 : BitVec 32 := 8#32
  let c0_i32_526 : BitVec 32 := 0#32
  let v737 : BitVec 1 := Scalar.cmpi .eq c8_i32_525 c0_i32_526
  let c1_i32_527 : BitVec 32 := 1#32
  let v738 : BitVec 32 := Scalar.select v737 c1_i32_527 c8_i32_525
  let v739 : BitVec 32 := Scalar.remsi v736 v738
  let c0_i32_529 : BitVec 32 := 0#32
  let v741 : BitVec 1 := Scalar.cmpi .slt v739 c0_i32_529
  let c0_i32_530 : BitVec 32 := 0#32
  let v742 : BitVec 1 := Scalar.cmpi .slt v738 c0_i32_530
  let v743 : BitVec 1 := Scalar.xori v741 v742
  let c0_i32_528 : BitVec 32 := 0#32
  let v740 : BitVec 1 := Scalar.cmpi .ne v739 c0_i32_528
  let v744 : BitVec 1 := Scalar.andi v743 v740
  let v745 : BitVec 32 := Scalar.addi v739 v738
  let v746 : BitVec 32 := Scalar.select v744 v745 v739
  let c1_i32_533 : BitVec 32 := 1#32
  let v747 : BitVec 32 := Scalar.muli v746 c1_i32_533
  let v748 : BitVec 32 := Scalar.addi c0_i32_534 v747
  v748.toNat
def k0_dev19 (d0 : Dev nD) : Nat :=
  let c0_i32_548 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_537 : BitVec 32 := 1#32
  let v757 : BitVec 32 := Scalar.addi v2 c1_i32_537
  let c4_i32_538 : BitVec 32 := 4#32
  let v758 : BitVec 32 := Scalar.addi v757 c4_i32_538
  let c8_i32_539 : BitVec 32 := 8#32
  let c0_i32_540 : BitVec 32 := 0#32
  let v759 : BitVec 1 := Scalar.cmpi .eq c8_i32_539 c0_i32_540
  let c1_i32_541 : BitVec 32 := 1#32
  let v760 : BitVec 32 := Scalar.select v759 c1_i32_541 c8_i32_539
  let v761 : BitVec 32 := Scalar.remsi v758 v760
  let c0_i32_543 : BitVec 32 := 0#32
  let v763 : BitVec 1 := Scalar.cmpi .slt v761 c0_i32_543
  let c0_i32_544 : BitVec 32 := 0#32
  let v764 : BitVec 1 := Scalar.cmpi .slt v760 c0_i32_544
  let v765 : BitVec 1 := Scalar.xori v763 v764
  let c0_i32_542 : BitVec 32 := 0#32
  let v762 : BitVec 1 := Scalar.cmpi .ne v761 c0_i32_542
  let v766 : BitVec 1 := Scalar.andi v765 v762
  let v767 : BitVec 32 := Scalar.addi v761 v760
  let v768 : BitVec 32 := Scalar.select v766 v767 v761
  let c1_i32_547 : BitVec 32 := 1#32
  let v769 : BitVec 32 := Scalar.muli v768 c1_i32_547
  let v770 : BitVec 32 := Scalar.addi c0_i32_548 v769
  v770.toNat
def k0_dev20 (d0 : Dev nD) : Nat :=
  let c0_i32_562 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_551 : BitVec 32 := 1#32
  let v779 : BitVec 32 := Scalar.addi v2 c1_i32_551
  let c5_i32_552 : BitVec 32 := 5#32
  let v780 : BitVec 32 := Scalar.addi v779 c5_i32_552
  let c8_i32_553 : BitVec 32 := 8#32
  let c0_i32_554 : BitVec 32 := 0#32
  let v781 : BitVec 1 := Scalar.cmpi .eq c8_i32_553 c0_i32_554
  let c1_i32_555 : BitVec 32 := 1#32
  let v782 : BitVec 32 := Scalar.select v781 c1_i32_555 c8_i32_553
  let v783 : BitVec 32 := Scalar.remsi v780 v782
  let c0_i32_557 : BitVec 32 := 0#32
  let v785 : BitVec 1 := Scalar.cmpi .slt v783 c0_i32_557
  let c0_i32_558 : BitVec 32 := 0#32
  let v786 : BitVec 1 := Scalar.cmpi .slt v782 c0_i32_558
  let v787 : BitVec 1 := Scalar.xori v785 v786
  let c0_i32_556 : BitVec 32 := 0#32
  let v784 : BitVec 1 := Scalar.cmpi .ne v783 c0_i32_556
  let v788 : BitVec 1 := Scalar.andi v787 v784
  let v789 : BitVec 32 := Scalar.addi v783 v782
  let v790 : BitVec 32 := Scalar.select v788 v789 v783
  let c1_i32_561 : BitVec 32 := 1#32
  let v791 : BitVec 32 := Scalar.muli v790 c1_i32_561
  let v792 : BitVec 32 := Scalar.addi c0_i32_562 v791
  v792.toNat
def k0_dev21 (d0 : Dev nD) : Nat :=
  let c0_i32_576 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_565 : BitVec 32 := 1#32
  let v801 : BitVec 32 := Scalar.addi v2 c1_i32_565
  let c6_i32_566 : BitVec 32 := 6#32
  let v802 : BitVec 32 := Scalar.addi v801 c6_i32_566
  let c8_i32_567 : BitVec 32 := 8#32
  let c0_i32_568 : BitVec 32 := 0#32
  let v803 : BitVec 1 := Scalar.cmpi .eq c8_i32_567 c0_i32_568
  let c1_i32_569 : BitVec 32 := 1#32
  let v804 : BitVec 32 := Scalar.select v803 c1_i32_569 c8_i32_567
  let v805 : BitVec 32 := Scalar.remsi v802 v804
  let c0_i32_571 : BitVec 32 := 0#32
  let v807 : BitVec 1 := Scalar.cmpi .slt v805 c0_i32_571
  let c0_i32_572 : BitVec 32 := 0#32
  let v808 : BitVec 1 := Scalar.cmpi .slt v804 c0_i32_572
  let v809 : BitVec 1 := Scalar.xori v807 v808
  let c0_i32_570 : BitVec 32 := 0#32
  let v806 : BitVec 1 := Scalar.cmpi .ne v805 c0_i32_570
  let v810 : BitVec 1 := Scalar.andi v809 v806
  let v811 : BitVec 32 := Scalar.addi v805 v804
  let v812 : BitVec 32 := Scalar.select v810 v811 v805
  let c1_i32_575 : BitVec 32 := 1#32
  let v813 : BitVec 32 := Scalar.muli v812 c1_i32_575
  let v814 : BitVec 32 := Scalar.addi c0_i32_576 v813
  v814.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v901 : BitVec 32 := Scalar.muli v2 c512_i32
  let v902 : Index := Scalar.indexCast v901
  let c0_626 : Index := 0#32
  ![v902.toNat, 0]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.Common.lean ====
/-
The kernel's exchange between the eight devices: its buffers, the values they come to hold, its
semaphore cells and the rounds each cell goes through, what a device owes at every point of its body,
and the levels that make every wait end.

Everything is said for the program `KernelIdeal` over ANY float values; the compiled program has the same
text, so its frame is the instance at machine floats.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.MemrefSat
public import Mathlib.Algebra.BigOperators.Intervals
public import Mathlib.Tactic.Abel

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the pipeline's own, and one round book whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ)

/-! ## Devices -/

/-- Device number `k`, counted round the eight. -/
def dv (k : ℕ) : Dev nD := ⟨k % 8, Nat.mod_lt _ (by decide)⟩

/-- The device `c` turns to at step `k`: its successors one after another, and at step 7 itself. -/
def peer (c : Dev nD) (k : ℕ) : Dev nD := dv (c.val + k + 1)

theorem dv_val (c : Dev nD) : dv c.val = c := Fin.ext (Nat.mod_eq_of_lt c.isLt)
theorem peer_seven (c : Dev nD) : peer c 7 = c := by revert c; decide
theorem peer_ne {k : ℕ} (c : Dev nD) (hk : k < 7) : peer c k ≠ c := by
  have : ∀ k : Fin 7, ∀ c : Dev nD, peer c k.val ≠ c := by decide
  exact this ⟨k, hk⟩ c
theorem peer_inj (c : Dev nD) {j k : ℕ} (hj : j < 8) (hk : k < 8) (h : peer c j = peer c k) : j = k := by
  have : ∀ j k : Fin 8, ∀ c : Dev nD, peer c j.val = peer c k.val → j = k := by decide
  exact Fin.mk.inj_iff.mp (this ⟨j, hj⟩ ⟨k, hk⟩ c h)
theorem exists_peer (c d : Dev nD) : ∃ k, k < 8 ∧ peer c k = d := by
  have : ∀ c d : Dev nD, ∃ k : Fin 8, peer c k.val = d := by decide
  obtain ⟨k, hk⟩ := this c d
  exact ⟨k.val, k.isLt, hk⟩

/-! ## Buffers and the pieces of them the kernel moves -/

abbrev xM : Memref sig .tc .vmem S512x4096 .f32 := Memref.whole cc0_stg0_0
abbrev bM : Memref sig .tc .hbm S4096x2048 .f32 := Memref.whole main_arg1
abbrev oM : Memref sig .tc .vmem S4096x256 .f32 := Memref.whole cc0_stg1_0
abbrev wM : Memref sig .tc .vmem S2x4096x256 .f32 := Memref.whole cc0_scratch0
abbrev sM : Memref sig .tc .vmem S8x512x256 .bf16 := Memref.whole cc0_scratch1
abbrev qM : Memref sig .tc .vmem S8x512x256 .bf16 := Memref.whole cc0_scratch2
abbrev aM : Memref sig .tc .vmem S1x128 .f32 := Memref.whole cc0_scratch3
abbrev gM : Memref sig .tc .vmem S8x128 .f32 := Memref.whole cc0_scratch4

theorem slot_inb (k : ℕ) : ∀ a, (![k % 8, 0, 0] : Fin 3 → Nat) a + S1x512x256.size a ≤ S8x512x256.size a := by
  have h := Nat.mod_lt k (show 0 < 8 by decide)
  intro a; fin_cases a
  · show k % 8 + 1 ≤ 8; omega
  · show 0 + 512 ≤ 512; omega
  · show 0 + 256 ≤ 256; omega
theorem stage_inb (k : ℕ) : ∀ a, (![k % 2, 0, 0] : Fin 3 → Nat) a + S1x4096x256.size a ≤ S2x4096x256.size a := by
  have h := Nat.mod_lt k (show 0 < 2 by decide)
  intro a; fin_cases a
  · show k % 2 + 1 ≤ 2; omega
  · show 0 + 4096 ≤ 4096; omega
  · show 0 + 256 ≤ 256; omega
theorem row_inb (k : ℕ) : ∀ a, (![k % 8, 0] : Fin 2 → Nat) a + S1x128.size a ≤ S8x128.size a := by
  have h := Nat.mod_lt k (show 0 < 8 by decide)
  intro a; fin_cases a
  · show k % 8 + 1 ≤ 8; omega
  · show 0 + 128 ≤ 128; omega
theorem out_inb (k : ℕ) : ∀ a, (![512 * (k % 8), 0] : Fin 2 → Nat) a + S512x256.size a ≤ S4096x256.size a := by
  have h := Nat.mod_lt k (show 0 < 8 by decide)
  intro a; fin_cases a
  · show 512 * (k % 8) + 512 ≤ 4096; omega
  · show 0 + 256 ≤ 256; omega
theorem chunk_inb (d : Dev nD) : ∀ a, (![0, 256 * d.val] : Fin 2 → Nat) a + S4096x256.size a ≤ S4096x2048.size a := by
  have h : d.val < 8 := d.isLt
  intro a; fin_cases a
  · show 0 + 4096 ≤ 4096; omega
  · show 256 * d.val + 256 ≤ 2048; omega

abbrev slotR (k : ℕ) : Rect S8x512x256 := Rect.unit (s := S8x512x256) ![k % 8, 0, 0] S1x512x256.size (slot_inb k)
abbrev stageR (k : ℕ) : Rect S2x4096x256 := Rect.unit (s := S2x4096x256) ![k % 2, 0, 0] S1x4096x256.size (stage_inb k)
abbrev rowR (k : ℕ) : Rect S8x128 := Rect.unit (s := S8x128) ![k % 8, 0] S1x128.size (row_inb k)
abbrev outR (k : ℕ) : Rect S4096x256 := Rect.unit (s := S4096x256) ![512 * (k % 8), 0] S512x256.size (out_inb k)
abbrev chunkR (d : Dev nD) : Rect S4096x2048 := Rect.unit (s := S4096x2048) ![0, 256 * d.val] S4096x256.size (chunk_inb d)
abbrev maxR : Rect S1x128 := Rect.unit (s := S1x128) ![0, 0] S1x128.size inb_S1x128_S1x128_0_0
abbrev xR : Rect S512x4096 := Rect.unit (s := S512x4096) ![0, 0] S512x4096.size inb_S512x4096_S512x4096_0_0

/-- Slot `k` of the buffer a device sends its chunks from, and of the one it receives them in. -/
abbrev sendAt (k : ℕ) : Memref sig .tc .vmem S1x512x256 .bf16 := sM.slice (slotR k) (fun _ => rfl)
abbrev recvAt (k : ℕ) : Memref sig .tc .vmem S1x512x256 .bf16 := qM.slice (slotR k) (fun _ => rfl)
/-- The half of the staging buffer that step `t` uses. -/
abbrev stageAt (t : ℕ) : Memref sig .tc .vmem S1x4096x256 .f32 := wM.slice (stageR t) (fun _ => rfl)
/-- Row `k` of the received maxima, the row a device sends its own maximum from, rows of the result, a chunk of `b`. -/
abbrev rowAt (k : ℕ) : Memref sig .tc .vmem S1x128 .f32 := gM.slice (rowR k) (fun _ => rfl)
abbrev maxAt : Memref sig .tc .vmem S1x128 .f32 := aM.slice maxR (fun _ => rfl)
abbrev outBlk (k : ℕ) : Memref sig .tc .vmem S512x256 .f32 := oM.slice (outR k) (fun _ => rfl)
abbrev chunkAt (d : Dev nD) : Memref sig .tc .hbm S4096x256 .f32 := bM.slice (chunkR d) (fun _ => rfl)

/-- The pieces as the transfers name them, with the leading axis of length one dropped. -/
abbrev sendSq (k : ℕ) : Memref sig .tc .vmem S512x256 .bf16 := (sendAt k).squeeze S512x256 squeezes_S1x512x256_S512x256
abbrev recvSq (k : ℕ) : Memref sig .tc .vmem S512x256 .bf16 := (recvAt k).squeeze S512x256 squeezes_S1x512x256_S512x256
abbrev stageSq (t : ℕ) : Memref sig .tc .vmem S4096x256 .f32 := (stageAt t).squeeze S4096x256 squeezes_S1x4096x256_S4096x256
abbrev rowSq (k : ℕ) : Memref sig .tc .vmem S128 .f32 := (rowAt k).squeeze S128 squeezes_S1x128_S128
abbrev maxSq : Memref sig .tc .vmem S128 .f32 := maxAt.squeeze S128 squeezes_S1x128_S128

/-! ## Contents -/

/-- The rows of `x` the pipeline stages for device `c`, and what the body's load of them returns. -/
def xraw (c : Dev nD) : (cc0_stg0_0 : Ref sig .tc).ty.Contents (Elt F) :=
  (win0_0.blk (0 : Fin 1)).view.read (Elt F) (m ((c : Thread nD τ).loc main_arg0))
def xval (c : Dev nD) : Vec F S512x4096 .f32 := xM.view.readAt (Elt F) xR.toLoadRect (xraw m c)

/-- Chunk `d` of the columns of `b`, as device `c` reads it, and as it lies in the staging buffer. -/
def bchunk (c d : Dev nD) : S4096x256.Idx → Elt F .f32 := (chunkAt d).view.read (Elt F) (m ((c : Thread nD τ).loc main_arg1))
def wval (c d : Dev nD) : Vec F S1x4096x256 .f32 :=
  fun j => bchunk m c d ((Shape.reshapeEquiv (Shape.Squeezes.numel_eq squeezes_S1x4096x256_S4096x256)).symm j)

/-- The product of `c`'s rows with chunk `d`, its negative part cut off, narrowed. -/
def V (c d : Dev nD) : Vec F S1x512x256 .bf16 := k0_pay12 (xval m c) (wval m c d)

/-- The running maximum on device `c` after `t` chunks, and at the end. -/
def maxTo (c : Dev nD) : ℕ → F .f32
  | 0 => Scalar.ofBits .f32 0x00000000#32
  | t + 1 => k0_pay11 (maxTo c t) (xval m c) (wval m c (peer c t))
def amx (c : Dev nD) : F .f32 := maxTo m c 8
def amxRow (c : Dev nD) : Vec F S1x128 .f32 := k0_pay31 (amx m c)

/-- The maximum over all devices as device `c` folds it, the two factors made of it, and a block of the result. -/
def gmaxTo (c : Dev nD) : ℕ → F .f32
  | 0 => amx m c
  | s + 1 => Scalar.maximumf (gmaxTo c s) (amx m (dv s))
def inv (c : Dev nD) : F .f32 := Scalar.divf (Scalar.ofBits .f32 0x42FE0000#32) (gmaxTo m c 8)
def scale (c : Dev nD) : F .f32 := Scalar.divf (gmaxTo m c 8) (Scalar.ofBits .f32 0x42FE0000#32)
def outV (c d : Dev nD) : Vec F S512x256 .f32 := k0_pay38 (inv m c) (scale m c) (V m d c)

/-! ## Shares of what is read by several transfers at once -/

/-- What is left in hand of a read-only piece after `t` transfers have each taken a share of it. -/
def sh : ℕ → PosShare TreeShare
  | 0 => fullShare
  | t + 1 => (sh t).left

/-! ## Cells -/

abbrev barS : Sem sig := (SemArray.scalar (sig.barrier 0 rfl) : Sems sig S_).sem
def dsem (q : ℕ) : DmaSem sig := ⟨q % 36, Nat.mod_lt _ (by decide)⟩

abbrev barCell (c : Dev nD) : GSem nD τ sig := ((c : Thread nD τ), .reg barS)
abbrev dcell (c : Dev nD) (q : ℕ) : GSem nD τ sig := ((c : Thread nD τ), .dma (dsem q))

/-- The staging buffer's two halves, a sender's cell of step `t`, a receiver's cell of sender `s`, and the same
    two for the maxima. -/
abbrev wCell (c : Dev nD) (t : ℕ) : GSem nD τ sig := dcell c (2 + t % 2)
abbrev sndCell (c : Dev nD) (t : ℕ) : GSem nD τ sig := dcell c (4 + t % 8)
abbrev rcvCell (c : Dev nD) (s : ℕ) : GSem nD τ sig := dcell c (12 + s % 8)
abbrev msCell (c : Dev nD) (t : ℕ) : GSem nD τ sig := dcell c (20 + t % 8)
abbrev mrCell (c : Dev nD) (s : ℕ) : GSem nD τ sig := dcell c (28 + s % 8)

/-- What one transfer into each kind of buffer credits. -/
abbrev Nw : ℕ := (stageSq 0).view.dmaCredit
abbrev Ns : ℕ := (recvSq 0).view.dmaCredit
abbrev Na : ℕ := (rowSq 0).view.dmaCredit
theorem Nw_pos : 0 < Nw := View.dmaCredit_pos _ (by decide)
theorem Ns_pos : 0 < Ns := View.dmaCredit_pos _ (by decide)
theorem Na_pos : 0 < Na := View.dmaCredit_pos _ (by decide)

/-! ## The rounds -/

/-- What device `d`'s entry signal hands device `c`: `d`'s landing slot and landing row for `c`. -/
def barPay (c d : Dev nD) : sProp 𝕄 :=
  iprop((∃ X, owns (d : Thread nD τ) (recvAt c.val) fullShare X) ∗ (∃ Y, owns (d : Thread nD τ) (rowAt c.val) fullShare Y))
def stagePay (c : Dev nD) (t : ℕ) : sProp 𝕄 := owns (c : Thread nD τ) (stageAt t) fullShare (wval m c (peer c t))
def sndPay (c : Dev nD) (t : ℕ) : sProp 𝕄 := owns (c : Thread nD τ) (sendAt t) fullShare (V m c (peer c t))
def rcvPay (c : Dev nD) (s : ℕ) : sProp 𝕄 := owns (c : Thread nD τ) (recvAt s) fullShare (V m (dv s) c)
def msPay (c : Dev nD) (t : ℕ) : sProp 𝕄 := owns (c : Thread nD τ) maxAt (sh t).right (amxRow m c)
def mrPay (c : Dev nD) (s : ℕ) : sProp 𝕄 := owns (c : Thread nD τ) (rowAt s) fullShare (amxRow m (dv s))

/-- What the DMA semaphore numbered `q` of device `c` delivers in round `r`. -/
def dmaPay (c : Dev nD) (q r : ℕ) : sProp 𝕄 :=
  if q < 4 then stagePay m c (2 * r + (q - 2))
  else if q < 12 then sndPay m c (q - 4)
  else if q < 20 then rcvPay m c (q - 12)
  else if q < 28 then msPay m c (q - 20)
  else mrPay m c (q - 28)

/-- The rounds in which a transfer on that semaphore is due at all: four for each half of the staging buffer, one for
    each of the seven sends, one for each sender that is not `c` itself. -/
def Due (c : Dev nD) (q r : ℕ) : Prop :=
  (2 ≤ q ∧ q < 4 ∧ r < 4) ∨ (r = 0 ∧ ((4 ≤ q ∧ q < 11) ∨ (12 ≤ q ∧ q < 20 ∧ q ≠ c.val + 12) ∨ (20 ≤ q ∧ q < 27) ∨ (28 ≤ q ∧ q ≠ c.val + 28)))
instance (c : Dev nD) (q r : ℕ) : Decidable (Due c q r) := by unfold Due; infer_instance

def dmaAmount (q : ℕ) : ℕ := if q < 4 then Nw else if q < 20 then Ns else Na
theorem dmaAmount_pos (q : ℕ) : 0 < dmaAmount q := by
  unfold dmaAmount; split
  · exact Nw_pos
  · split
    · exact Ns_pos
    · exact Na_pos

/-- The schedule: a barrier cell has one round, with a duty of one unit for every other device; a DMA cell the duty
    named `0` in every round a transfer is due. -/
def Rd : Rounds.Schedule (GSem nD τ sig) (Dev nD) 𝕄 where
  duties g r := match g.1.2 with
    | .tc => match g.2 with
      | .reg b => if b = barS ∧ r = 0 then Finset.univ.erase g.1.1 else ∅
      | .dma q => if Due g.1.1 q.val r then {0} else ∅
    | _ => ∅
  unitless _ := False
  amount g _ _ := match g.2 with
    | .reg _ => 1
    | .dma q => dmaAmount q.val
  payload g r d := match g.2 with
    | .reg _ => barPay g.1.1 d
    | .dma q => dmaPay m g.1.1 q.val r
  amount_pos g _ _ _ := by
    cases g.2 with
    | reg _ => exact Nat.one_pos
    | dma q => exact dmaAmount_pos _

instance Rd_payload_storable (g : GSem nD τ sig) (r : ℕ) (d : Dev nD) :
    BI.Storable (upEmb : UEmb _ 𝕄) ((Rd (F := F) m).payload g r d) := by
  obtain ⟨t, sm⟩ := g
  cases sm with
  | reg b => show BI.Storable upEmb (barPay t.1 d); unfold barPay; infer_instance
  | dma q =>
    show BI.Storable upEmb (dmaPay m t.1 q.val r)
    unfold dmaPay stagePay sndPay rcvPay msPay mrPay
    (repeat' split) <;> infer_instance

theorem dsem_val {q : ℕ} (h : q < 36) : (dsem q).val = q := Nat.mod_eq_of_lt h

theorem duties_bar (c : Dev nD) : (Rd (F := F) m).duties (barCell c) 0 = Finset.univ.erase c :=
  show (if barS = barS ∧ (0 : ℕ) = 0 then Finset.univ.erase c else ∅) = _ from if_pos ⟨rfl, rfl⟩
theorem duties_bar_later (c : Dev nD) : ∀ r, 1 ≤ r → (Rd (F := F) m).duties (barCell c) r = ∅ :=
  fun r hr => if_neg fun h => absurd h.2 (by omega)
theorem duties_dma (c : Dev nD) {q r : ℕ} (hq : q < 36) (h : Due c q r) : (Rd (F := F) m).duties (dcell c q) r = {0} :=
  if_pos (by rw [dsem_val hq]; exact h)
theorem duties_none (c : Dev nD) {q r : ℕ} (hq : q < 36) (h : ¬ Due c q r) : (Rd (F := F) m).duties (dcell c q) r = ∅ :=
  if_neg (by rw [dsem_val hq]; exact h)
theorem amount_bar (c : Dev nD) (r : ℕ) (d : Dev nD) : (Rd (F := F) m).amount (barCell c) r d = 1 := rfl
theorem amount_dma (c : Dev nD) {q : ℕ} (hq : q < 36) (r : ℕ) (d : Dev nD) : (Rd (F := F) m).amount (dcell c q) r d = dmaAmount q := by
  show dmaAmount (dsem q).val = _; rw [dsem_val hq]
theorem payload_bar (c : Dev nD) (r : ℕ) (d : Dev nD) : (Rd (F := F) m).payload (barCell c) r d = barPay c d := rfl
theorem payload_dma (c : Dev nD) {q : ℕ} (hq : q < 36) (r : ℕ) (d : Dev nD) : (Rd (F := F) m).payload (dcell c q) r d = dmaPay m c q r := by
  show dmaPay m c (dsem q).val r = _; rw [dsem_val hq]
theorem expect_bar (c : Dev nD) : (Rd (F := F) m).expect (barCell c) 0 = 7 := by
  unfold Schedule.expect Schedule.amountOf
  rw [duties_bar, Finset.sum_congr rfl fun d _ => amount_bar m c 0 d, Finset.sum_const, Finset.card_erase_of_mem (Finset.mem_univ _)]
  rfl
theorem expect_dma (c : Dev nD) {q r : ℕ} (hq : q < 36) (h : Due c q r) : (Rd (F := F) m).expect (dcell c q) r = dmaAmount q := by
  unfold Schedule.expect Schedule.amountOf
  rw [duties_dma m c hq h, Finset.sum_singleton, amount_dma m c hq]
theorem rest_dma (c : Dev nD) {q r : ℕ} (hq : q < 36) (h : Due c q r) :
    bigSep ((Rd (F := F) m).duties (dcell c q) r \ ∅) (fun d => (Rd (F := F) m).payload (dcell c q) r d) = dmaPay m c q r := by
  rw [Finset.sdiff_empty, duties_dma m c hq h, bigSep_singleton, payload_dma m c hq]

/-! ## What a device owes, and the levels -/

/-- What device `c` still owes once it has signalled `s` devices, sent `t` chunks and `a` maxima. -/
def owed (c : Dev nD) (s t a : ℕ) : CellTallies nD τ sig Unit :=
  ∑ k ∈ Finset.Ico s 7, tallyAt (barCell (peer c k)) () 1
    + (∑ k ∈ Finset.Ico t 7, tallyAt (rcvCell (peer c k) c.val) () Ns + ∑ k ∈ Finset.Ico a 7, tallyAt (mrCell (peer c k) c.val) () Na)

theorem owed_signal (c : Dev nD) {s : ℕ} (hs : s < 7) (t a : ℕ) :
    owed c s t a = owed c (s + 1) t a + tallyAt (barCell (peer c s)) () 1 := by
  unfold owed; rw [Finset.sum_eq_sum_Ico_succ_bot hs]; abel
theorem owed_send (c : Dev nD) (s : ℕ) {t : ℕ} (ht : t < 7) (a : ℕ) :
    owed c s t a = owed c s (t + 1) a + tallyAt (rcvCell (peer c t) c.val) () Ns := by
  unfold owed; rw [Finset.sum_eq_sum_Ico_succ_bot ht]; abel
theorem owed_max (c : Dev nD) (s t : ℕ) {a : ℕ} (ha : a < 7) :
    owed c s t a = owed c s t (a + 1) + tallyAt (mrCell (peer c a) c.val) () Na := by
  unfold owed; rw [Finset.sum_eq_sum_Ico_succ_bot ha]; abel
theorem owed_done (c : Dev nD) : owed c 7 7 7 = 0 := by
  unfold owed; simp only [Finset.Ico_self, Finset.sum_empty, add_zero]

def L (g : GSem nD τ sig) : Finset Unit := if g.1.2 = .tc then {()} else ∅
/-- Barrier cells at 1, cells other devices' transfers land on at 2, every cell a device serves itself at 0. -/
def lv (g : GSem nD τ sig) (_ : Unit) : ℕ := match g.2 with
  | .reg _ => 1
  | .dma q => if (12 ≤ q.val ∧ q.val < 20) ∨ 28 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem tallySum_pos {T : Finset ℕ} {cell : ℕ → GSem nD τ sig} {n : ℕ} {g : GSem nD τ sig} {u : Unit}
    (h : 0 < (∑ k ∈ T, tallyAt (cell k) () n : CellTallies nD τ sig Unit) g u) : ∃ k ∈ T, g = cell k := by
  rw [Finset.sum_apply, Finsupp.finset_sum_apply] at h
  by_contra hn
  push Not at hn
  rw [Finset.sum_eq_zero fun k hk => by rw [tallyAt_apply]; exact if_neg fun hc => hn k hk hc.1] at h
  exact Nat.lt_irrefl 0 h

/-- Whatever is owed is owed to cells of level 1 or above, and of level 2 once every device is signalled. -/
theorem owed_pos {c : Dev nD} {s t a : ℕ} {g : GSem nD τ sig} {u : Unit} (h : 0 < owed c s t a g u) :
    g.1.2 = .tc ∧ ((s < 7 ∧ lv g u = 1) ∨ lv g u = 2) := by
  unfold owed at h
  rw [Pi.add_apply, Finsupp.add_apply, Pi.add_apply, Finsupp.add_apply] at h
  have hmod := Nat.mod_lt c.val (show 0 < 8 by decide)
  rcases Nat.eq_zero_or_pos ((∑ k ∈ Finset.Ico s 7, tallyAt (barCell (peer c k)) () 1 : CellTallies nD τ sig Unit) g u) with h1 | h1
  rotate_left
  · obtain ⟨k, hk, rfl⟩ := tallySum_pos h1
    exact ⟨rfl, .inl ⟨by have := Finset.mem_Ico.mp hk; omega, rfl⟩⟩
  · rcases (by omega : 0 < (∑ k ∈ Finset.Ico t 7, tallyAt (rcvCell (peer c k) c.val) () Ns : CellTallies nD τ sig Unit) g u
      ∨ 0 < (∑ k ∈ Finset.Ico a 7, tallyAt (mrCell (peer c k) c.val) () Na : CellTallies nD τ sig Unit) g u) with h3 | h3
    · obtain ⟨k, hk, rfl⟩ := tallySum_pos h3
      refine ⟨rfl, .inr (if_pos ?_)⟩
      rw [dsem_val (by omega)]; omega
    · obtain ⟨k, hk, rfl⟩ := tallySum_pos h3
      refine ⟨rfl, .inr (if_pos ?_)⟩
      rw [dsem_val (by omega)]; omega

/-- A device may wait on a cell of level 0 whatever it owes, -/
theorem mayWait_low (c : Dev nD) {q : DmaSem sig} (hq : lv ((c : Thread nD τ), .dma q) () = 0) (s t a : ℕ) :
    (levAts L lv : sProp 𝕄) ⊢ MayWait (c : Thread nD τ) (.dma q) () (owed c s t a) :=
  MayOwe.of_cut (L := L) (lev := lv) 0 (fun p hp => by rw [Finset.mem_singleton.mp hp, L_tc]; exact Finset.mem_singleton_self _)
    (fun g u hg => by unfold L; rw [if_pos (owed_pos hg).1]; exact Finset.mem_singleton_self _)
    (fun p hp => by rw [Finset.mem_singleton.mp hp]; exact hq.le)
    (fun g u hg => by rcases (owed_pos hg).2 with h | h <;> omega)
/-- and on its barrier cell once it has signalled every device. -/
theorem mayWait_bar (c : Dev nD) (t a : ℕ) :
    (levAts L lv : sProp 𝕄) ⊢ MayWait (c : Thread nD τ) (.reg barS) () (owed c 7 t a) :=
  MayOwe.of_cut (L := L) (lev := lv) 1 (fun p hp => by rw [Finset.mem_singleton.mp hp, L_tc]; exact Finset.mem_singleton_self _)
    (fun g u hg => by unfold L; rw [if_pos (owed_pos hg).1]; exact Finset.mem_singleton_self _)
    (fun p hp => by rw [Finset.mem_singleton.mp hp]; exact le_rfl)
    (fun g u hg => by rcases (owed_pos hg).2 with h | h <;> omega)

end Cert.Exchange
-- ==== Proof.Steps.lean ====
/-
One rule for each kind of operation the body performs, in the shape the body is followed in: the state before
the operation yields what the operation needs and takes back what it leaves as the state after it.
-/
module

public import proofs.«01_k».proof.Proof.Common

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Running `p` on device `c` ends with `Q` of its result. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What device `c` owes, whatever it has waited for. -/
def Owes (c : Dev nD) (O : CellTallies nD τ sig Unit) : sProp 𝕄 := iprop(∃ W : Waits sig Unit, owes (c : Thread nD τ) O W)

/-- A cell's invariant under some name, with its round 0 reached. -/
def Known (g : GSem nD τ sig) : sProp 𝕄 := iprop(∃ κ : ℕ, cellInv ER (Rd m) κ g)
instance Known_persistent (g : GSem nD τ sig) : BI.Persistent (Known (F := F) m g) := by unfold Known; infer_instance

/-- A piece held whole at some contents. -/
abbrev some_ (c : Dev nD) {sp : Space} {s : Shape} {e : EltTy} (v : Memref sig .tc sp s e) : sProp 𝕄 :=
  iprop(∃ X : s.Idx → Elt F e, (owns (c : Thread nD τ) v fullShare X : sProp 𝕄))

section Rules

variable {c : Dev nD} {α : Type} {Q : α → sProp (MT nD τ sig Unit (Elt F) ℕ UU ℕ)} {S S' : sProp (MT nD τ sig Unit (Elt F) ℕ UU ℕ)}

theorem run_ret {a : α} (h : S ⊢ Q a) : S ⊢ run c (.ret a) Q := by
  refine h.trans ?_
  unfold run
  rw [wp_ret]
  iintro H; imodintro; iexact H

theorem run_bind {β : Type} {p : Prog (TpuEff nD τ sig (Elt F) Λ₀ .tc) β} {k : β → Prog (TpuEff nD τ sig (Elt F) Λ₀ .tc) α}
    (h : S ⊢ run c p (fun b => run c (k b) Q)) : S ⊢ run c (p >>= k) Q := by
  unfold run
  rw [wp_bind]; exact h

theorem run_update {p : Prog (TpuEff nD τ sig (Elt F) Λ₀ .tc) α} (hS : S ⊢ iprop(|={Set.univ}=> S')) (h : S' ⊢ run c p Q) : S ⊢ run c p Q := by
  iintro H
  ihave H' := hS $$ H
  imod H' with H'
  iapply h; iexact H'

theorem run_device {k : Dev nD → Prog (TpuEff nD τ sig (Elt F) Λ₀ .tc) α} (h : S ⊢ run c (k c) Q) : S ⊢ run c (.op .deviceId k) Q := by
  unfold run
  rw [wp_deviceId]; exact h

/-- A load of a rectangle. -/
theorem run_load {cs : CoreSpace} {s : Shape} {e : EltTy} {v : Memref sig .tc cs s e} {r : Rect s} {hr : ∀ a, r.stride a = 1} {hl : v.view.LoadsAt r.toLoadRect}
    {k : (r.shape.Idx → Elt F e) → Prog (TpuEff nD τ sig (Elt F) Λ₀ .tc) α} {q : PosShare TreeShare} (P : (r.shape.Idx → Elt F e) → Prop)
    (hS : S ⊢ iprop(∃ X, ⌜P X⌝ ∗ owns (c : Thread nD τ) (v.slice r hr) q X ∗ (owns (c : Thread nD τ) (v.slice r hr) q X -∗ S)))
    (h : ∀ X, P X → (S ⊢ run c (k X) Q)) : S ⊢ run c (.op (.load v r.toLoadRect hl) k) Q := by
  refine hS.trans ?_
  iintro ⟨%X, %hX, Ho, Hb⟩
  unfold owns
  icases Ho with ⟨%f, %hf, Hp⟩
  iapply (wp_load 𝒱₀ (c : Thread nD τ) none Set.univ (m := v) (r := r.toLoadRect) (S := (v.slice r hr).view.set) (f := f) (q := q)
    (show v.view.setOn r.set ⊆ (v.view.slice r).set by rw [View.set_slice]; exact Finset.Subset.refl _)) $$ [Hp]
  · iexact Hp
  iintro Hp
  have hX' : v.view.readAt (Elt F) r.toLoadRect f = X := hf
  rw [hX']
  iapply (h X hX)
  iapply Hb
  iexists f
  isplitr; · ipureintro; exact hf
  iexact Hp

/-- A store of a rectangle. -/
theorem run_store {cs : CoreSpace} {s : Shape} {e : EltTy} {v : Memref sig .tc cs s e} {r : Rect s} {hr : ∀ a, r.stride a = 1} {w : r.shape.Idx → Elt F e}
    {hx : (v.access r).Stores Finset.univ} {hm : (Finset.univ : Finset r.shape.Idx) = Finset.univ ∨ ∀ a, r.stride a = 1}
    {k : PUnit → Prog (TpuEff nD τ sig (Elt F) Λ₀ .tc) α}
    (hS : S ⊢ iprop((∃ X, owns (c : Thread nD τ) (v.slice r hr) fullShare X) ∗ (owns (c : Thread nD τ) (v.slice r hr) fullShare w -∗ S')))
    (h : S' ⊢ run c (k ⟨⟩) Q) : S ⊢ run c (.op (.store v r w Finset.univ hx hm) k) Q := by
  refine hS.trans ?_
  iintro ⟨⟨%X, Ho⟩, Hb⟩
  unfold owns
  icases Ho with ⟨%f, %hf, Hp⟩
  iapply (wp_store 𝒱₀ (c : Thread nD τ) none Set.univ (m := v) (r := r) (Mk := Finset.univ) (S := (v.slice r hr).view.set) (f := f)
    (by rw [View.setOn_univ])) $$ [Hp]
  · iexact Hp
  iintro Hp
  iapply h
  iapply Hb
  iexists _
  isplitr
  rotate_left
  · iexact Hp
  ipureintro
  exact View.read_write_univ _ _

/-- An entry signal of one unit to device `d`'s barrier cell. -/
theorem run_signal {d n : Dev nD} (hn : n = d) {k : PUnit → Prog (TpuEff nD τ sig (Elt F) Λ₀ .tc) α} (hne : d ≠ c) {O O' : CellTallies nD τ sig Unit}
    (hO : O = O' + tallyAt (barCell d) () 1)
    (hS : S ⊢ iprop(Known m (barCell d) ∗ Owes c O ∗ dutyTok ER (barCell d) 0 c ∗ barPay d c ∗ reached ER (barCell d) 0 ∗ (Owes c O' -∗ S')))
    (h : S' ⊢ run c (k ⟨⟩) Q) : S ⊢ run c (.op (.semSignal (n : Thread nD τ) barS 1) k) Q := by
  subst hn
  refine hS.trans ?_
  unfold Known Owes
  iintro ⟨⟨%κ, #HI⟩, ⟨%W, HO⟩, Ht, Hp, #Hr, Hb⟩
  iapply (Rounds.wp_signal 𝒱₀ ER (Rd m) (c : Thread nD τ) none (dst := (n : Thread nD τ)) (κ := κ)
      (d := c) (by rw [duties_bar]; exact Finset.mem_erase.mpr ⟨fun h => hne h.symm, Finset.mem_univ _⟩) (amount_bar m n 0 c) () O' hO)
    $$ [HO Ht Hp]
  · isplitr; · iexact HI
    isplitl [HO]; · iexact HO
    isplitl [Ht]; · iexact Ht
    isplitl [Hp]; · rw [payload_bar]; iexact Hp
    iexact Hr
  iintro HO
  iapply h
  iapply Hb
  iexists W; iexact HO

/-- The wait for every other device's entry signal; the cell closes with it. -/
theorem run_wait_bar {k : PUnit → Prog (TpuEff nD τ sig (Elt F) Λ₀ .tc) α} {t a : ℕ}
    (hS : S ⊢ iprop(Known m (barCell c) ∗ levAts L lv ∗ cred (tallyAt (barCell c) () 7) ∗ Owes c (owed c 7 t a) ∗ atPos ER (barCell c) 0 ∅ 0
      ∗ ((Owes c (owed c 7 t a) ∗ semVal (barCell c) 0 ∗ bigSep (Finset.univ.erase c) (fun d => barPay c d)) -∗ S')))
    (h : S' ⊢ run c (k ⟨⟩) Q) : S ⊢ run c (.op (.semWait barS 7) k) Q := by
  refine hS.trans ?_
  unfold Known Owes
  iintro ⟨⟨%κ, #HI⟩, #Hl, Hc, ⟨%W, HO⟩, Ha, Hb⟩
  iapply (Rounds.wp_wait_rest_token 𝒱₀ ER (Rd m) (c : Thread nD τ) none (κ := κ)
      (wpE_semWait_eq 𝒱₀ (c : Thread nD τ) none Set.univ) (Set.mem_univ _) () (O := owed c 7 t a) (W := W) (R := 0) (m := 0) (T := ∅)
      (by rw [expect_bar])) $$ [Hc HO Ha]
  · isplitr; · iexact HI
    isplitl [Hc]; · iexact Hc
    isplitl [HO]; · iexact HO
    isplitr; · iapply (mayWait_bar c t a); iexact Hl
    iexact Ha
  iintro ⟨HO, Ha, -, Hp⟩
  imod (Rounds.cell_close ER (Rd m) (Set.mem_univ κ) (fun h => h) (R := 0 + 1) (duties_bar_later m c)) $$ [Ha] with Hz
  · isplitr; · iexact HI
    iexact Ha
  iapply h
  iapply Hb
  isplitl [HO]; · iexists _; iexact HO
  isplitl [Hz]; · iexact Hz
  rw [Finset.sdiff_empty, duties_bar]
  iexact Hp

/-- The wait for the transfer due in round `r` on the semaphore numbered `q`. -/
theorem run_wait {sp sp' : Space} {s : Shape} {e : EltTy} {src : Memref sig .tc sp s e} {dst : Memref sig .tc sp' s e} {sm : DmaSem sig}
    {hsrc : src.view.WordExact} {hdst : dst.view.WordExact}
    {k : PUnit → Prog (TpuEff nD τ sig (Elt F) Λ₀ .tc) α} (q r : ℕ) (hsm : sm = dsem q) (hq : q < 36) (hdue : Due c q r)
    (hamt : dst.view.dmaCredit = dmaAmount q) {O : CellTallies nD τ sig Unit} (hmay : (levAts L lv : sProp 𝕄) ⊢ MayWait (c : Thread nD τ) (.dma (dsem q)) () O)
    (hS : S ⊢ iprop(Known m (dcell c q) ∗ levAts L lv ∗ cred (tallyAt (dcell c q) () (dmaAmount q)) ∗ Owes c O ∗ atPos ER (dcell c q) r ∅ 0
      ∗ ((Owes c O ∗ atPos ER (dcell c q) (r + 1) ∅ 0 ∗ reached ER (dcell c q) (r + 1) ∗ dmaPay m c q r) -∗ |={Set.univ}=> S')))
    (h : S' ⊢ run c (k ⟨⟩) Q) : S ⊢ run c (.op (.waitDma2 sm src dst hsrc hdst) k) Q := by
  subst hsm
  refine hS.trans ?_
  unfold Known Owes
  rw [← hamt]
  iintro ⟨⟨%κ, #HI⟩, #Hl, Hc, ⟨%W, HO⟩, Ha, Hb⟩
  iapply (Rounds.wp_wait_rest_token 𝒱₀ ER (Rd m) (c : Thread nD τ) none (κ := κ)
      (wpE_waitDma2_eq 𝒱₀ (c : Thread nD τ) none Set.univ) (Set.mem_univ _) () (O := O) (W := W) (R := r) (m := 0) (T := ∅)
      (by rw [Nat.zero_add, expect_dma m c hq hdue]; exact hamt)) $$ [Hc HO Ha]
  · isplitr; · iexact HI
    isplitl [Hc]; · iexact Hc
    isplitl [HO]; · iexact HO
    isplitr; · iapply hmay; iexact Hl
    iexact Ha
  iintro ⟨HO, Ha, Hr, Hp⟩
  ihave Hp := (Entails.of_eq (rest_dma m c hq hdue)) $$ Hp
  ihave H := Hb $$ [HO Ha Hr Hp]
  · isplitl [HO]; · iexists _; iexact HO
    isplitl [Ha]; · iexact Ha
    isplitl [Hr]; · iexact Hr
    iexact Hp
  imod H with H
  iapply h; iexact H

/-- A cell whose rounds are over closes, its counter at zero. -/
theorem close_dma (c : Dev nD) {q R : ℕ} (hq : q < 36) (hR : ∀ r, R ≤ r → ¬ Due c q r) :
    iprop(Known m (dcell c q) ∗ atPos ER (dcell c q) R ∅ 0) ⊢ (iprop(|={Set.univ}=> semVal (dcell c q) 0) : sProp 𝕄) := by
  unfold Known
  iintro ⟨⟨%κ, #HI⟩, Ha⟩
  iapply (Rounds.cell_close ER (Rd m) (Set.mem_univ κ) (fun h => h) (R := R) (fun r hr => duties_none m c hq (hR r hr)))
  isplitr; · iexact HI
  iexact Ha

/-- A piece and the same piece with an axis of length one dropped are held together. -/
theorem owns_squeeze (c : Dev nD) {sp : Space} {s s' : Shape} {e : EltTy} (v : Memref sig .tc sp s e) (hq : s.Squeezes s') (p : PosShare TreeShare) (X : s'.Idx → Elt F e) :
    (owns (c : Thread nD τ) (v.squeeze s' hq) p X : sProp 𝕄)
      = owns (c : Thread nD τ) v p (fun j => X ((Shape.reshapeEquiv hq.numel_eq).symm j)) := by
  have hread : ∀ f : v.view.ty.Contents (Elt F), (v.squeeze s' hq).view.read (Elt F) f = (fun i => v.view.read (Elt F) f (Shape.reshapeEquiv hq.numel_eq i)) := fun f => rfl
  have hiff : ∀ f : v.view.ty.Contents (Elt F), ((v.squeeze s' hq).view.read (Elt F) f = X)
      = (v.view.read (Elt F) f = fun j => X ((Shape.reshapeEquiv hq.numel_eq).symm j)) := fun f => propext
    ⟨fun h => by funext j; rw [← h, hread]; dsimp only; rw [Equiv.apply_symm_apply], fun h => by rw [hread, h]; funext i; dsimp only; rw [Equiv.symm_apply_apply]⟩
  have hset : (v.squeeze s' hq).view.set = v.view.set := View.set_reshape _ _
  unfold owns
  rw [hset]
  exact congrArg BIBase.exists (funext fun f => congrArg (fun P : Prop => iprop(⌜P⌝ ∗ (v.view.loc (c : Thread nD τ) ↦[v.view.set]{p} f))) (hiff f))

/-- A transfer to device `d`: its own duty takes the source piece, the landing duty the destination holding what the
    source holds. -/
theorem run_send {d n : Dev nD} (hn : n = d) {sp sp' : Space} {s : Shape} {e : EltTy} {src : Memref sig .tc sp s e} {dst : Memref sig .tc sp' s e}
    {hsc : (show Memref sig (Dev.tc n : Thread nD τ).2.kind sp' s e from dst).view.ref.isScScratch = false} {sS sR : DmaSem sig} {hsrc : src.view.WordExact} {hdst : dst.view.WordExact}
    {hsem : DmaTarget.Typed sp (.dma sR) (.remote (Dev.tc n : Thread nD τ) dst (.dma sS) hsc)}
    {k : PUnit → Prog (TpuEff nD τ sig (Elt F) Λ₀ .tc) α} {p : PosShare TreeShare} (X : s.Idx → Elt F e)
    (q₁ q₂ : ℕ) (hs₁ : sS = dsem q₁) (hs₂ : sR = dsem q₂) (hq₁ : q₁ < 36) (hq₂ : q₂ < 36) (hd₁ : Due c q₁ 0) (hd₂ : Due d q₂ 0)
    (ha₁ : dmaAmount q₁ = dmaAmount q₂) (hamt : dst.view.dmaCredit = dmaAmount q₂)
    {O O' : CellTallies nD τ sig Unit} (hO : O = O' + tallyAt (dcell d q₂) () (dmaAmount q₂))
    (hpay₁ : (owns (c : Thread nD τ) src p X : sProp 𝕄) ⊢ dmaPay m c q₁ 0) (hpay₂ : (owns (d : Thread nD τ) dst fullShare X : sProp 𝕄) ⊢ dmaPay m d q₂ 0)
    (hS : S ⊢ iprop(Known m (dcell c q₁) ∗ Known m (dcell d q₂) ∗ owns (c : Thread nD τ) src p X ∗ (∃ Y, owns (d : Thread nD τ) dst fullShare Y) ∗ Owes c O
      ∗ dutyTok ER (dcell c q₁) 0 (0 : Dev nD) ∗ reached ER (dcell c q₁) 0 ∗ dutyTok ER (dcell d q₂) 0 (0 : Dev nD) ∗ reached ER (dcell d q₂) 0
      ∗ ((cred (tallyAt (dcell c q₁) () (dmaAmount q₁)) ∗ Owes c O') -∗ S')))
    (h : S' ⊢ run c (k ⟨⟩) Q) :
    S ⊢ run c (.op (.enqueueDma src (.remote (Dev.tc n : Thread nD τ) dst (.dma sS) hsc) (.dma sR) hsrc hdst hsem) k) Q := by
  subst hn hs₁ hs₂
  refine hS.trans ?_
  unfold Known Owes
  rw [ha₁]
  iintro ⟨⟨%κ₁, #HI₁⟩, ⟨%κ₂, #HI₂⟩, Hsrc, ⟨%Y, Hdst⟩, ⟨%W, HO⟩, Ht₁, #Hr₁, Ht₂, #Hr₂, Hb⟩
  unfold owns
  icases Hsrc with ⟨%fs, %hfs, Hsrc⟩
  icases Hdst with ⟨%fd, %hfd, Hdst⟩
  iapply (Rounds.wp_send_pointsTo 𝒱₀ ER (Rd m) (c : Thread nD τ) none (c' := (n : Thread nD τ)) (src := src) (dst := dst) (κ₁ := κ₁) (κ₂ := κ₂)
    (r₁ := 0) (r₂ := 0) (d₁ := (0 : Dev nD)) (d₂ := (0 : Dev nD)) (fs := fs) (fd := fd) (q := p)
    (by rw [duties_dma m c hq₁ hd₁]; exact Finset.mem_singleton_self _) (by rw [duties_dma m n hq₂ hd₂]; exact Finset.mem_singleton_self _)
    () () (dmaAmount q₂) (show dst.view.amount (.dma (dsem q₂)) = _ from hamt) ((amount_dma m c hq₁ 0 0).trans ha₁) (amount_dma m n hq₂ 0 0) O' hO (W := W)
    (by
      rw [payload_dma m c hq₁]
      iintro H; iapply hpay₁; unfold owns; iexists fs; isplitr; · ipureintro; exact hfs
      iexact H)
    (by
      rw [payload_dma m n hq₂]
      iintro H; iapply hpay₂; unfold owns; iexists _; isplitr
      rotate_left
      · iexact H
      ipureintro
      rw [hfs]; exact View.read_write_univ _ _)) $$ [Hsrc Hdst HO Ht₁ Ht₂]
  · isplitr; · iexact HI₁
    isplitr; · iexact HI₂
    isplitl [Hsrc]; · iexact Hsrc
    isplitl [Hdst]; · iexact Hdst
    isplitl [HO]; · iexact HO
    isplitl [Ht₁]; · iexact Ht₁
    isplitr; · iexact Hr₁
    isplitl [Ht₂]; · iexact Ht₂
    iexact Hr₂
  iintro ⟨Hc, HO⟩
  iapply h
  iapply Hb
  isplitl [Hc]; · iexact Hc
  iexists W; iexact HO

/-- A transfer within the device, from a piece read at some share, which it does not give back. -/
theorem run_copy {sp sp' : Space} {s : Shape} {e : EltTy} {src : Memref sig .tc sp s e} {dst : Memref sig .tc sp' s e} {sm : DmaSem sig}
    {hsrc : src.view.WordExact} {hdst : dst.view.WordExact} {hsem : DmaTarget.Typed (nD := nD) (τ := τ) (p := .tc) sp (.dma sm) (.here dst)}
    {k : PUnit → Prog (TpuEff nD τ sig (Elt F) Λ₀ .tc) α} {p : PosShare TreeShare} (X : s.Idx → Elt F e)
    (q r : ℕ) (hsm : sm = dsem q) (hq : q < 36) (hdue : Due c q r) (hamt : dst.view.dmaCredit = dmaAmount q)
    (hpay : (owns (c : Thread nD τ) dst fullShare X : sProp 𝕄) ⊢ dmaPay m c q r)
    (hS : S ⊢ iprop(Known m (dcell c q) ∗ owns (c : Thread nD τ) src p X ∗ (∃ Y, owns (c : Thread nD τ) dst fullShare Y)
      ∗ dutyTok ER (dcell c q) r (0 : Dev nD) ∗ reached ER (dcell c q) r ∗ (cred (tallyAt (dcell c q) () (dmaAmount q)) -∗ S')))
    (h : S' ⊢ run c (k ⟨⟩) Q) : S ⊢ run c (.op (.enqueueDma src (.here dst) (.dma sm) hsrc hdst hsem) k) Q := by
  subst hsm
  refine hS.trans ?_
  unfold Known
  iintro ⟨⟨%κ, #HI⟩, Hsrc, ⟨%Y, Hdst⟩, Ht, #Hr, Hb⟩
  unfold owns
  icases Hsrc with ⟨%fs, %hfs, Hsrc⟩
  icases Hdst with ⟨%fd, %hfd, Hdst⟩
  iapply (Rounds.wp_copy_pointsTo 𝒱₀ ER (Rd m) (c : Thread nD τ) none (src := src) (dst := dst) (κ := κ) (r := r) (d := (0 : Dev nD)) (fs := fs) (fd := fd) (q := p)
    (by rw [duties_dma m c hq hdue]; exact Finset.mem_singleton_self _) () (dmaAmount q) (show dst.view.amount (.dma (dsem q)) = _ from hamt) (amount_dma m c hq r 0)
    (by
      rw [payload_dma m c hq]
      iintro ⟨H, -⟩; iapply hpay; unfold owns; iexists _; isplitr
      rotate_left
      · iexact H
      ipureintro
      rw [hfs]; exact View.read_write_univ _ _)) $$ [Hsrc Hdst Ht]
  · isplitr; · iexact HI
    isplitl [Hsrc]; · iexact Hsrc
    isplitl [Hdst]; · iexact Hdst
    isplitl [Ht]; · iexact Ht
    iexact Hr
  iintro Hc
  iapply h
  iapply Hb
  iexact Hc

end Rules

end Cert.Exchange
-- ==== Proof.State.lean ====
/-
What a device holds between two operations of its body, component by component, and how each operation moves it on:
the entry signals and their wait, the staging of the columns of `b`, the chunks sent, the maxima sent, what is
received, the rows of the result.
-/
module

public import proofs.«01_k».proof.Proof.Steps
public import Idealize.SL.BI.BigOpNat

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Runs of numbers -/

theorem pop {a b : ℕ} (h : a < b) (Φ : ℕ → sProp 𝕄) : bigSep (Finset.Ico a b) Φ ⊢ iprop(Φ a ∗ bigSep (Finset.Ico (a + 1) b) Φ) :=
  Entails.of_eq (bigSep_Ico_succ_bot h Φ)
theorem unpop {a b : ℕ} (h : a < b) (Φ : ℕ → sProp 𝕄) : iprop(Φ a ∗ bigSep (Finset.Ico (a + 1) b) Φ) ⊢ bigSep (Finset.Ico a b) Φ :=
  Entails.of_eq (bigSep_Ico_succ_bot h Φ).symm
theorem push {a b : ℕ} (h : a ≤ b) (Φ : ℕ → sProp 𝕄) : iprop(Φ b ∗ bigSep (Finset.Ico a b) Φ) ⊢ bigSep (Finset.Ico a (b + 1)) Φ :=
  Entails.of_eq (bigSep_Ico_succ_top h Φ).symm

theorem split {I : Type} (s : Finset I) (Φ Ψ : I → sProp 𝕄) : bigSep s (fun k => iprop(Φ k ∗ Ψ k)) ⊢ iprop(bigSep s Φ ∗ bigSep s Ψ) :=
  Entails.of_eq (bigSep_sep s Φ Ψ)
theorem join {I : Type} (s : Finset I) (Φ Ψ : I → sProp 𝕄) : iprop(bigSep s Φ ∗ bigSep s Ψ) ⊢ bigSep s (fun k => iprop(Φ k ∗ Ψ k)) :=
  Entails.of_eq (bigSep_sep s Φ Ψ).symm

theorem bigSep_numbers (n : ℕ) (Φ : ℕ → sProp 𝕄) : bigSep (Finset.univ : Finset (Fin n)) (fun i => Φ i.val) = bigSep (Finset.Ico 0 n) Φ := by
  have h : (Finset.univ : Finset (Fin n)).map Fin.valEmbedding = Finset.Ico 0 n := by
    ext x
    simp only [Finset.mem_map, Finset.mem_univ, true_and, Fin.valEmbedding_apply, Finset.mem_Ico, Nat.zero_le]
    exact ⟨fun ⟨i, hi⟩ => hi ▸ i.isLt, fun hx => ⟨⟨x, hx⟩, rfl⟩⟩
  rw [← h, bigSep_map]; rfl

/-- The devices other than `c`, in the order `c` turns to them. -/
def peerEmb (c : Dev nD) : Fin 7 ↪ Dev nD := ⟨fun k => peer c k.val, fun j k h => Fin.ext (peer_inj c (by omega) (by omega) h)⟩
theorem peers_eq (c : Dev nD) : (Finset.univ : Finset (Fin 7)).map (peerEmb c) = Finset.univ.erase c := by
  ext d
  simp only [Finset.mem_map, Finset.mem_univ, true_and, Finset.mem_erase, and_true]
  constructor
  · rintro ⟨k, rfl⟩; exact peer_ne c k.isLt
  · intro hd
    obtain ⟨k, hk, rfl⟩ := exists_peer c d
    have : k ≠ 7 := fun h => hd (by rw [h, peer_seven])
    exact ⟨⟨k, by omega⟩, rfl⟩
theorem bigSep_others (c : Dev nD) (Φ : Dev nD → sProp 𝕄) : bigSep (Finset.univ.erase c) Φ = bigSep (Finset.Ico 0 7) (fun k => Φ (peer c k)) := by
  rw [← peers_eq, bigSep_map, ← bigSep_numbers 7 (fun k => Φ (peer c k))]; rfl

/-! ## What every device knows -/

def csem (i : Fin 35) : SemLoc sig := if i.val = 0 then .reg barS else .dma (dsem (i.val + 1))
abbrev kcell (ck : Dev nD × Fin 35) : GSem nD τ sig := ((ck.1 : Thread nD τ), csem ck.2)

/-- Every cell's invariant, that its first round is reached, and the levels. -/
def Env : sProp 𝕄 :=
  iprop((bigSep Finset.univ fun ck : Dev nD × Fin 35 => Known m (kcell ck)) ∗ (bigSep Finset.univ fun ck : Dev nD × Fin 35 => reached ER (kcell ck) 0) ∗ levAts L lv)
instance Env_persistent : BI.Persistent (Env (F := F) m) := by unfold Env; infer_instance

theorem env_known (ck : Dev nD × Fin 35) : Env m ⊢ (iprop(Known m (kcell ck) ∗ reached ER (kcell ck) 0) : sProp 𝕄) := by
  have hK : (bigSep Finset.univ fun ck : Dev nD × Fin 35 => Known m (kcell ck)) ⊢ (Known m (kcell ck) : sProp 𝕄) := bigSep_elim (Finset.mem_univ ck)
  have hR : (bigSep Finset.univ fun ck : Dev nD × Fin 35 => reached ER (kcell ck) 0) ⊢ (reached ER (kcell ck) 0 : sProp 𝕄) := bigSep_elim (Finset.mem_univ ck)
  unfold Env
  iintro ⟨#HK, #HR, -⟩
  isplitr
  · iapply hK; iexact HK
  · iapply hR; iexact HR
theorem env_bar (d : Dev nD) : Env m ⊢ (iprop(Known m (barCell d) ∗ reached ER (barCell d) 0) : sProp 𝕄) := env_known m (d, 0)
theorem env_dma (d : Dev nD) {q : ℕ} (h₂ : 2 ≤ q) (hq : q < 36) : Env m ⊢ (iprop(Known m (dcell d q) ∗ reached ER (dcell d q) 0) : sProp 𝕄) := by
  have h := env_known m (d, (⟨q - 1, by omega⟩ : Fin 35))
  have hc : csem (⟨q - 1, by omega⟩ : Fin 35) = .dma (dsem q) := by
    unfold csem
    rw [if_neg (by show ¬ q - 1 = 0; omega), show (⟨q - 1, by omega⟩ : Fin 35).val + 1 = q from by show q - 1 + 1 = q; omega]
  unfold kcell at h
  rw [hc] at h
  exact h
theorem env_lev : Env m ⊢ (levAts L lv : sProp 𝕄) := by
  unfold Env
  iintro ⟨-, -, H⟩; iexact H

/-! ## The state -/

/-- A device's state: what it knows, what it owes, its rows of `x`, and six components. -/
def St (c : Dev nD) (O : CellTallies nD τ sig Unit) (B W S M R T : sProp 𝕄) : sProp 𝕄 :=
  iprop(Env m ∗ Owes c O ∗ owns (c : Thread nD τ) (xM.slice xR (fun _ => rfl)) fullShare (xval m c) ∗ B ∗ W ∗ S ∗ M ∗ R ∗ T)

/-- The entry signals still to be sent from number `s` on, with what they hand over. -/
def Sg (c : Dev nD) (s : ℕ) : sProp 𝕄 :=
  bigSep (Finset.Ico s 7) fun k => iprop(dutyTok ER (barCell (peer c k)) 0 c ∗ barPay (peer c k) c)
def Bar (c : Dev nD) (s : ℕ) : sProp 𝕄 := iprop(Sg c s ∗ cred (tallyAt (barCell c) () 7) ∗ atPos ER (barCell c) 0 ∅ 0)

/-- The staging of `b`, `i` copies issued and `d` of them waited for: the share of `b` in hand, the tokens of the copies
    to come, the positions of the two cells, and the half holding the last chunk waited for. -/
def Wcore (c : Dev nD) (i d : ℕ) : sProp 𝕄 :=
  iprop((((c : Thread nD τ).loc main_arg1) ↦{sh i} (m ((c : Thread nD τ).loc main_arg1)))
    ∗ (bigSep (Finset.Ico i 8) fun t => dutyTok ER (wCell c t) (t / 2) (0 : Dev nD))
    ∗ (atPos ER (wCell c d) (d / 2) ∅ 0 ∗ reached ER (wCell c d) (d / 2))
    ∗ (atPos ER (wCell c (d + 1)) ((d + 1) / 2) ∅ 0 ∗ reached ER (wCell c (d + 1)) ((d + 1) / 2))
    ∗ ∃ X, ⌜∀ t, d = t + 1 → X = wval m c (peer c t)⌝ ∗ owns (c : Thread nD τ) (stageAt (d + 1)) fullShare X)
/-- No copy under way, the next half free; one copy under way. -/
def Wfree (c : Dev nD) (d : ℕ) : sProp 𝕄 := iprop(Wcore m c d d ∗ some_ c (stageAt d))
def Wbusy (c : Dev nD) (d : ℕ) : sProp 𝕄 := iprop(Wcore m c (d + 1) d ∗ cred (tallyAt (wCell c d) () Nw))

/-- The landing slots and rows other devices have opened for `c`, from peer `t` on. -/
def Land (c : Dev nD) (t : ℕ) : sProp 𝕄 := bigSep (Finset.Ico t 7) fun k => some_ (peer c k) (recvAt c.val)
def LandM (c : Dev nD) (t : ℕ) : sProp 𝕄 := bigSep (Finset.Ico t 7) fun k => some_ (peer c k) (rowAt c.val)

/-- The chunks: `n` computed, `t` of them sent, `r` of those waited for. -/
def Snd (c : Dev nD) (n t r : ℕ) : sProp 𝕄 :=
  iprop((bigSep (Finset.Ico n 8) fun k => some_ c (sendAt k))
    ∗ (bigSep (Finset.Ico t n) fun k => owns (c : Thread nD τ) (sendAt k) fullShare (V m c (peer c k)))
    ∗ (bigSep (Finset.Ico t 7) fun k => iprop(dutyTok ER (sndCell c k) 0 (0 : Dev nD) ∗ dutyTok ER (rcvCell (peer c k) c.val) 0 (0 : Dev nD)))
    ∗ (bigSep (Finset.Ico r t) fun k => cred (tallyAt (sndCell c k) () Ns))
    ∗ (bigSep (Finset.Ico r 8) fun k => atPos ER (sndCell c k) 0 ∅ 0)
    ∗ bigSep (Finset.Ico 0 r) fun k => iprop(some_ c (sendAt k) ∗ semVal (sndCell c k) 0))
def Sends (c : Dev nD) (n t r : ℕ) : sProp 𝕄 := iprop(Snd m c n t r ∗ Land c t)

/-- The maxima before the device's own is known, and with `t` of them sent and `r` of those waited for. -/
def Max0 (c : Dev nD) : sProp 𝕄 :=
  iprop(some_ c maxAt
    ∗ (bigSep (Finset.Ico 0 7) fun k => iprop(dutyTok ER (msCell c k) 0 (0 : Dev nD) ∗ dutyTok ER (mrCell (peer c k) c.val) 0 (0 : Dev nD)))
    ∗ bigSep (Finset.Ico 0 8) fun k => atPos ER (msCell c k) 0 ∅ 0)
def Maxs (c : Dev nD) (t r : ℕ) : sProp 𝕄 :=
  iprop(owns (c : Thread nD τ) maxAt (sh t) (amxRow m c)
    ∗ (bigSep (Finset.Ico t 7) fun k => iprop(dutyTok ER (msCell c k) 0 (0 : Dev nD) ∗ dutyTok ER (mrCell (peer c k) c.val) 0 (0 : Dev nD)))
    ∗ (bigSep (Finset.Ico r t) fun k => cred (tallyAt (msCell c k) () Na))
    ∗ (bigSep (Finset.Ico r 8) fun k => atPos ER (msCell c k) 0 ∅ 0)
    ∗ (bigSep (Finset.Ico 0 r) fun k => iprop(owns (c : Thread nD τ) maxAt (sh k).right (amxRow m c) ∗ semVal (msCell c k) 0))
    ∗ LandM c t)

/-- What sender `s` will deliver to device `c`, and what it has delivered. Device `c` sends itself nothing: there its own
    slot and row stand idle. -/
def Due₀ (c : Dev nD) (s : ℕ) : sProp 𝕄 :=
  iprop((if dv s = c then iprop(some_ c (recvAt s) ∗ some_ c (rowAt s)) else iprop(cred (tallyAt (rcvCell c s) () Ns) ∗ cred (tallyAt (mrCell c s) () Na)))
    ∗ atPos ER (rcvCell c s) 0 ∅ 0 ∗ atPos ER (mrCell c s) 0 ∅ 0)
def Got (c : Dev nD) (s : ℕ) : sProp 𝕄 :=
  iprop((∃ X, ⌜dv s ≠ c → X = V m (dv s) c⌝ ∗ owns (c : Thread nD τ) (recvAt s) fullShare X)
    ∗ (∃ Y, ⌜dv s ≠ c → Y = amxRow m (dv s)⌝ ∗ owns (c : Thread nD τ) (rowAt s) fullShare Y)
    ∗ semVal (rcvCell c s) 0 ∗ semVal (mrCell c s) 0)
def Recv (c : Dev nD) (n : ℕ) : sProp 𝕄 := iprop(bigSep (Finset.Ico n 8) (Due₀ c) ∗ bigSep (Finset.Ico 0 n) (Got m c))
/-- Between the two waits for sender `n`. -/
def RecvHalf (c : Dev nD) (n : ℕ) : sProp 𝕄 :=
  iprop((owns (c : Thread nD τ) (recvAt n) fullShare (V m (dv n) c) ∗ semVal (rcvCell c n) 0 ∗ cred (tallyAt (mrCell c n) () Na) ∗ atPos ER (mrCell c n) 0 ∅ 0)
    ∗ bigSep (Finset.Ico (n + 1) 8) (Due₀ c) ∗ bigSep (Finset.Ico 0 n) (Got m c))

/-- The result's blocks: none written; the device's own and those of the senders below `n` written. -/
def outDone (c : Dev nD) (s : ℕ) : sProp 𝕄 := owns (c : Thread nD τ) (outBlk s) fullShare (outV m c (dv s))
def Out0 (c : Dev nD) : sProp 𝕄 := bigSep (Finset.Ico 0 8) fun s => some_ c (outBlk s)
def Out (c : Dev nD) (n : ℕ) : sProp 𝕄 :=
  iprop((bigSep (Finset.Ico n 8) fun s => iprop(∃ X, ⌜dv s = c → X = outV m c (dv s)⌝ ∗ owns (c : Thread nD τ) (outBlk s) fullShare X))
    ∗ bigSep (Finset.Ico 0 n) (outDone m c))

/-- What the other devices' entry signals hand over, sorted into slots and rows. -/
theorem bar_split (c : Dev nD) : bigSep (Finset.univ.erase c) (fun d => barPay c d) ⊢ (iprop(Land c 0 ∗ LandM c 0) : sProp 𝕄) := by
  rw [bigSep_others]
  exact split (Finset.Ico 0 7) (fun k => some_ (peer c k) (recvAt c.val)) (fun k => some_ (peer c k) (rowAt c.val))

/-! ## Equal pieces, amounts and payloads -/

theorem stageAt_congr {i j : ℕ} (h : i % 2 = j % 2) : stageAt i = stageAt j := by
  have : ∀ a b (ha hb), a = b → wM.slice (Rect.unit (s := S2x4096x256) ![a, 0, 0] S1x4096x256.size ha) (fun _ => rfl)
      = wM.slice (Rect.unit (s := S2x4096x256) ![b, 0, 0] S1x4096x256.size hb) (fun _ => rfl) := by rintro a b ha hb rfl; rfl
  exact this _ _ _ _ h
theorem owns_stage_congr (c : Dev nD) {i j : ℕ} (h : i % 2 = j % 2) (X : S1x4096x256.Idx → Elt F .f32) :
    (owns (c : Thread nD τ) (stageAt i) fullShare X : sProp 𝕄) ⊢ owns (c : Thread nD τ) (stageAt j) fullShare X :=
  Entails.of_eq (by rw [stageAt_congr h])
theorem wCell_congr (c : Dev nD) {i j : ℕ} (h : i % 2 = j % 2) : wCell c i = wCell c j := by unfold wCell; rw [h]

theorem amount_w (t : ℕ) : dmaAmount (2 + t % 2) = Nw := if_pos (by omega)
theorem amount_snd (t : ℕ) : dmaAmount (4 + t % 8) = Ns := by unfold dmaAmount; rw [if_neg (by omega), if_pos (by omega)]
theorem amount_rcv (t : ℕ) : dmaAmount (12 + t % 8) = Ns := by unfold dmaAmount; rw [if_neg (by omega), if_pos (by omega)]
theorem amount_ms (t : ℕ) : dmaAmount (20 + t % 8) = Na := by unfold dmaAmount; rw [if_neg (by omega), if_neg (by omega)]
theorem amount_mr (t : ℕ) : dmaAmount (28 + t % 8) = Na := by unfold dmaAmount; rw [if_neg (by omega), if_neg (by omega)]

theorem pay_w (c : Dev nD) (t : ℕ) : dmaPay m c (2 + t % 2) (t / 2) = stagePay m c t := by
  unfold dmaPay; rw [if_pos (by omega), show 2 * (t / 2) + (2 + t % 2 - 2) = t by omega]
theorem pay_snd (c : Dev nD) {t : ℕ} (ht : t < 8) : dmaPay m c (4 + t % 8) 0 = sndPay m c t := by
  unfold dmaPay; rw [if_neg (by omega), if_pos (by omega), show 4 + t % 8 - 4 = t by omega]
theorem pay_rcv (c : Dev nD) {t : ℕ} (ht : t < 8) : dmaPay m c (12 + t % 8) 0 = rcvPay m c t := by
  unfold dmaPay; rw [if_neg (by omega), if_neg (by omega), if_pos (by omega), show 12 + t % 8 - 12 = t by omega]
theorem pay_ms (c : Dev nD) {t : ℕ} (ht : t < 8) : dmaPay m c (20 + t % 8) 0 = msPay m c t := by
  unfold dmaPay; rw [if_neg (by omega), if_neg (by omega), if_neg (by omega), if_pos (by omega), show 20 + t % 8 - 20 = t by omega]
theorem pay_mr (c : Dev nD) {t : ℕ} (ht : t < 8) : dmaPay m c (28 + t % 8) 0 = mrPay m c t := by
  unfold dmaPay; rw [if_neg (by omega), if_neg (by omega), if_neg (by omega), if_neg (by omega), show 28 + t % 8 - 28 = t by omega]

theorem credit_stage (t : ℕ) : (stageSq t).view.dmaCredit = Nw := rfl
theorem credit_send (t : ℕ) : (sendSq t).view.dmaCredit = Ns := rfl
theorem credit_recv (t : ℕ) : (recvSq t).view.dmaCredit = Ns := rfl
theorem credit_row (t : ℕ) : (rowSq t).view.dmaCredit = Na := rfl
theorem credit_max : maxSq.view.dmaCredit = Na := rfl

theorem due_w (c : Dev nD) {t : ℕ} (ht : t < 8) : Due c (2 + t % 2) (t / 2) := .inl (by omega)
theorem due_snd (c : Dev nD) {t : ℕ} (ht : t < 7) : Due c (4 + t % 8) 0 := .inr ⟨rfl, .inl (by omega)⟩
theorem due_rcv {c : Dev nD} {s : ℕ} (hs : s < 8) (h : dv s ≠ c) : Due c (12 + s % 8) 0 :=
  .inr ⟨rfl, .inr (.inl ⟨by omega, by omega, fun e => h (Fin.ext (show s % 8 = c.val by omega))⟩)⟩
theorem due_ms (c : Dev nD) {t : ℕ} (ht : t < 7) : Due c (20 + t % 8) 0 := .inr ⟨rfl, .inr (.inr (.inl (by omega)))⟩
theorem due_mr {c : Dev nD} {s : ℕ} (hs : s < 8) (h : dv s ≠ c) : Due c (28 + s % 8) 0 :=
  .inr ⟨rfl, .inr (.inr (.inr ⟨by omega, fun e => h (Fin.ext (show s % 8 = c.val by omega))⟩))⟩

theorem mayWait_end (c : Dev nD) (q : DmaSem sig) : (levAts L lv : sProp 𝕄) ⊢ MayWait (c : Thread nD τ) (.dma q) () (owed c 7 7 7) :=
  MayOwe.of_cut (L := L) (lev := lv) 2 (fun p hp => by rw [Finset.mem_singleton.mp hp, L_tc]; exact Finset.mem_singleton_self _)
    (fun g u hg => by unfold L; rw [if_pos (owed_pos hg).1]; exact Finset.mem_singleton_self _)
    (fun p hp => by
      rw [Finset.mem_singleton.mp hp]
      show (if (12 ≤ q.val ∧ q.val < 20) ∨ 28 ≤ q.val then 2 else 0) ≤ 2
      split <;> omega)
    (fun g u hg => by rw [owed_done] at hg; exact absurd hg (Nat.lt_irrefl 0))
theorem mayWait_q (c : Dev nD) {q : ℕ} (hq : q < 12 ∨ (20 ≤ q ∧ q < 28)) (s t a : ℕ) :
    (levAts L lv : sProp 𝕄) ⊢ MayWait (c : Thread nD τ) (.dma (dsem q)) () (owed c s t a) :=
  mayWait_low c (by
    show (if (12 ≤ (dsem q).val ∧ (dsem q).val < 20) ∨ 28 ≤ (dsem q).val then 2 else 0) = 0
    rw [dsem_val (by omega)]; exact if_neg (by omega)) s t a

theorem owns_squeeze' (c : Dev nD) {sp : Space} {s s' : Shape} {e : EltTy} (v : Memref sig .tc sp s e) (hq : s.Squeezes s') (p : PosShare TreeShare) (Y : s.Idx → Elt F e) :
    (owns (c : Thread nD τ) (v.squeeze s' hq) p (fun i => Y (Shape.reshapeEquiv hq.numel_eq i)) : sProp 𝕄) = owns (c : Thread nD τ) v p Y := by
  rw [owns_squeeze]; congr 1; funext j; rw [Equiv.apply_symm_apply]

/-! ## The moves -/

section Moves

variable {c : Dev nD} {α : Type} {Q : α → sProp (MT nD τ sig Unit (Elt F) ℕ UU ℕ)} {B W S M R T : sProp (MT nD τ sig Unit (Elt F) ℕ UU ℕ)}
variable {O : CellTallies nD τ sig Unit}

theorem st_signal {s : ℕ} (hs : s < 7) {n : Dev nD} (hn : n = peer c s) {k : PUnit → Prog (TpuEff nD τ sig (Elt F) Λ₀ .tc) α}
    (h : St m c (owed c (s + 1) 0 0) (Bar c (s + 1)) W S M R T ⊢ run c (k ⟨⟩) Q) :
    St m c (owed c s 0 0) (Bar c s) W S M R T ⊢ run c (.op (.semSignal (n : Thread nD τ) barS 1) k) Q := by
  refine run_signal m hn (peer_ne c hs) (owed_signal c hs 0 0) ?_ h
  unfold St Bar Sg
  iintro ⟨#E, HO, Hx, ⟨HB, HC, HA⟩, Hrest⟩
  ihave HB := (pop hs _) $$ HB
  icases HB with ⟨⟨Ht, Hp⟩, HB⟩
  ihave He := (env_bar m (peer c s)) $$ E
  icases He with ⟨#HK, #Hr⟩
  isplitr; · iexact HK
  isplitl [HO]; · iexact HO
  isplitl [Ht]; · iexact Ht
  isplitl [Hp]; · iexact Hp
  isplitr; · iexact Hr
  iintro HO
  isplitr; · iexact E
  isplitl [HO]; · iexact HO
  isplitl [Hx]; · iexact Hx
  isplitl [HB HC HA]
  · isplitl [HB]; · iexact HB
    isplitl [HC] <;> iassumption
  iexact Hrest

theorem st_wait_bar {k : PUnit → Prog (TpuEff nD τ sig (Elt F) Λ₀ .tc) α}
    (h : St m c (owed c 7 0 0) (semVal (barCell c) 0) W (iprop(S ∗ Land c 0)) (iprop(M ∗ LandM c 0)) R T ⊢ run c (k ⟨⟩) Q) :
    St m c (owed c 7 0 0) (Bar c 7) W S M R T ⊢ run c (.op (.semWait barS 7) k) Q := by
  refine run_wait_bar m (t := 0) (a := 0) ?_ h
  unfold St Bar
  iintro ⟨#E, HO, Hx, ⟨-, HC, HA⟩, HW, HS, HM, Hrest⟩
  ihave He := (env_bar m c) $$ E
  icases He with ⟨#HK, -⟩
  isplitr; · iexact HK
  isplitr; · iapply (env_lev m); iexact E
  isplitl [HC]; · iexact HC
  isplitl [HO]; · iexact HO
  isplitl [HA]; · iexact HA
  iintro ⟨HO, Hz, Hp⟩
  ihave Hp := (bar_split c) $$ Hp
  icases Hp with ⟨HL, HLM⟩
  isplitr; · iexact E
  isplitl [HO]; · iexact HO
  isplitl [Hx]; · iexact Hx
  isplitl [Hz]; · iexact Hz
  isplitl [HW]; · iexact HW
  isplitl [HS HL]
  · isplitl [HS]; · iexact HS
    iexact HL
  isplitl [HM HLM]
  · isplitl [HM]; · iexact HM
    iexact HLM
  iexact Hrest

/-! ### Loads -/

theorem st_load_x {hl : xM.view.LoadsAt xR.toLoadRect} {k : Vec F S512x4096 .f32 → Prog (TpuEff nD τ sig (Elt F) Λ₀ .tc) α}
    (h : St m c O B W S M R T ⊢ run c (k (xval m c)) Q) : St m c O B W S M R T ⊢ run c (.op (.load xM xR.toLoadRect hl) k) Q := by
  refine run_load (hr := fun _ => rfl) (q := fullShare) (· = xval m c) ?_ (fun X hX => by rw [hX]; exact h)
  unfold St
  iintro ⟨#E, HO, Hx, Hrest⟩
  iexists xval m c
  isplitr; · ipureintro; rfl
  isplitl [Hx]; · iexact Hx
  iintro Hx
  isplitr; · iexact E
  isplitl [HO]; · iexact HO
  isplitl [Hx]; · iexact Hx
  iexact Hrest

/-- The load of the chunk of `b` last waited for. -/
theorem st_load_w {i t : ℕ} {W' : sProp 𝕄} {off : Fin 3 → ℕ} {hoff} (ho : off = ![t % 2, 0, 0])
    {hl : wM.view.LoadsAt (Rect.unit (s := S2x4096x256) off S1x4096x256.size hoff).toLoadRect}
    {k : Vec F S1x4096x256 .f32 → Prog (TpuEff nD τ sig (Elt F) Λ₀ .tc) α}
    (h : St m c O B iprop(Wcore m c i (t + 1) ∗ W') S M R T ⊢ run c (k (wval m c (peer c t))) Q) :
    St m c O B iprop(Wcore m c i (t + 1) ∗ W') S M R T ⊢ run c (.op (.load wM (Rect.unit (s := S2x4096x256) off S1x4096x256.size hoff).toLoadRect hl) k) Q := by
  subst ho
  refine run_load (hr := fun _ => rfl) (q := fullShare) (· = wval m c (peer c t)) ?_ (fun X hX => by rw [hX]; exact h)
  unfold St Wcore
  iintro ⟨#E, HO, Hx, HB, ⟨⟨Hb, Ht, Hp, Hp', %X, %hX, Hw⟩, HW'⟩, Hrest⟩
  iexists X
  isplitr; · ipureintro; exact hX t rfl
  isplitl [Hw]; · iapply (owns_stage_congr c (show (t + 1 + 1) % 2 = t % 2 by omega) X); iexact Hw
  iintro Hw
  isplitr; · iexact E
  isplitl [HO]; · iexact HO
  isplitl [Hx]; · iexact Hx
  isplitl [HB]; · iexact HB
  isplitl [Hb Ht Hp Hp' Hw HW']
  · isplitl [Hb Ht Hp Hp' Hw]
    · isplitl [Hb]; · iexact Hb
      isplitl [Ht]; · iexact Ht
      isplitl [Hp]; · iexact Hp
      isplitl [Hp']; · iexact Hp'
      iexists X
      isplitr; · ipureintro; exact hX
      iapply (owns_stage_congr c (show t % 2 = (t + 1 + 1) % 2 by omega) X); iexact Hw
    iexact HW'
  iexact Hrest

/-! ### The staging of `b` -/

theorem split_b (c : Dev nD) (t : ℕ) (d : Dev nD) : (((c : Thread nD τ).loc main_arg1) ↦{sh t} (m ((c : Thread nD τ).loc main_arg1)) : sProp 𝕄)
    ⊢ iprop((((c : Thread nD τ).loc main_arg1) ↦{sh (t + 1)} (m ((c : Thread nD τ).loc main_arg1))) ∗ owns (c : Thread nD τ) (chunkAt d) (sh t).right (bchunk m c d)) := by
  iintro H
  ihave H := (pointsTo_share (PosShare.mem_left_op_right (sh t))).1 $$ H
  icases H with ⟨Hl, Hr⟩
  isplitl [Hl]; · iexact Hl
  ihave Hr := (pointsTo_split_subset (Finset.subset_univ (chunkAt d).view.set)).1 $$ Hr
  icases Hr with ⟨Hr, -⟩
  iapply (owns_intro (c : Thread nD τ) (chunkAt d) (sh t).right (m ((c : Thread nD τ).loc main_arg1)))
  iexact Hr

theorem st_issue {t : ℕ} (ht : t < 8) {off : Fin 2 → ℕ} {hoff} (ho : off = ![0, 256 * (peer c t).val]) {dst : Memref sig .tc .vmem S4096x256 .f32} (hdst : dst = stageSq t)
    {sm : DmaSem sig} (hsm : sm = dsem (2 + t % 2)) {hs₁} {hs₂} {hsem} {k : PUnit → Prog (TpuEff nD τ sig (Elt F) Λ₀ .tc) α}
    (h : St m c O B (Wbusy m c t) S M R T ⊢ run c (k ⟨⟩) Q) :
    St m c O B (Wfree m c t) S M R T
      ⊢ run c (.op (.enqueueDma (bM.slice (Rect.unit (s := S4096x2048) off S4096x256.size hoff) (fun _ => rfl)) (.here dst) (.dma sm) hs₁ hs₂ hsem) k) Q := by
  subst ho hdst
  refine run_copy m (p := (sh t).right) (bchunk m c (peer c t)) (2 + t % 2) (t / 2) hsm (by omega) (due_w c ht) ((credit_stage t).trans (amount_w t).symm) ?_ ?_ h
  · rw [pay_w]; exact Entails.of_eq (owns_squeeze c (stageAt t) squeezes_S1x4096x256_S4096x256 fullShare (bchunk m c (peer c t)))
  · unfold St Wfree Wbusy Wcore
    rw [amount_w]
    iintro ⟨#E, HO, Hx, HB, ⟨⟨Hb, Ht, ⟨Hp, #Hr⟩, Hp', Hold⟩, %Y, Hfree⟩, Hrest⟩
    ihave Ht := (pop ht _) $$ Ht
    icases Ht with ⟨Htok, Ht⟩
    ihave Hb := (split_b m c t (peer c t)) $$ Hb
    icases Hb with ⟨Hb, Hsrc⟩
    ihave He := (env_dma m c (show 2 ≤ 2 + t % 2 by omega) (by omega)) $$ E
    icases He with ⟨#HK, -⟩
    isplitr; · iexact HK
    isplitl [Hsrc]; · iexact Hsrc
    isplitl [Hfree]
    · iexists _
      iapply (Entails.of_eq (owns_squeeze' c (stageAt t) squeezes_S1x4096x256_S4096x256 fullShare Y).symm)
      iexact Hfree
    isplitl [Htok]; · iexact Htok
    isplitr; · iexact Hr
    iintro Hc
    isplitr; · iexact E
    isplitl [HO]; · iexact HO
    isplitl [Hx]; · iexact Hx
    isplitl [HB]; · iexact HB
    isplitl [Hb Ht Hp Hp' Hold Hc]
    · isplitl [Hb Ht Hp Hp' Hold]
      · isplitl [Hb]; · iexact Hb
        isplitl [Ht]; · iexact Ht
        isplitl [Hp]
        · isplitl [Hp]; · iexact Hp
          iexact Hr
        isplitl [Hp']; · iexact Hp'
        iexact Hold
      iexact Hc
    iexact Hrest

theorem st_wait_w {t : ℕ} (ht : t < 8) {s a b : ℕ} {src : Memref sig .tc .hbm S4096x256 .f32} {dst : Memref sig .tc .vmem S4096x256 .f32} (hdst : dst = stageSq t)
    {sm : DmaSem sig} (hsm : sm = dsem (2 + t % 2)) {hs₁} {hs₂} {k : PUnit → Prog (TpuEff nD τ sig (Elt F) Λ₀ .tc) α}
    (h : St m c (owed c s a b) B (Wfree m c (t + 1)) S M R T ⊢ run c (k ⟨⟩) Q) :
    St m c (owed c s a b) B (Wbusy m c t) S M R T ⊢ run c (.op (.waitDma2 sm src dst hs₁ hs₂) k) Q := by
  subst hdst
  refine run_wait m (2 + t % 2) (t / 2) hsm (by omega) (due_w c ht) ((credit_stage t).trans (amount_w t).symm) (mayWait_q c (by omega) s a b) ?_ h
  unfold St Wfree Wbusy Wcore
  rw [amount_w, pay_w]
  iintro ⟨#E, HO, Hx, HB, ⟨⟨Hb, Ht, ⟨Hp, -⟩, Hp', %X, -, Hold⟩, Hc⟩, Hrest⟩
  ihave He := (env_dma m c (show 2 ≤ 2 + t % 2 by omega) (by omega)) $$ E
  icases He with ⟨#HK, -⟩
  isplitr; · iexact HK
  isplitr; · iapply (env_lev m); iexact E
  isplitl [Hc]; · iexact Hc
  isplitl [HO]; · iexact HO
  isplitl [Hp]; · iexact Hp
  iintro ⟨HO, Hp, #Hr, Hpay⟩
  imodintro
  isplitr; · iexact E
  isplitl [HO]; · iexact HO
  isplitl [Hx]; · iexact Hx
  isplitl [HB]; · iexact HB
  isplitl [Hb Ht Hp Hp' Hold Hpay]
  · isplitl [Hb Ht Hp Hp' Hpay]
    · isplitl [Hb]; · iexact Hb
      isplitl [Ht]; · iexact Ht
      isplitl [Hp']; · iexact Hp'
      have e : wCell c (t + 1 + 1) = wCell c t := wCell_congr c (by omega)
      rw [e, show (t + 1 + 1) / 2 = t / 2 + 1 by omega]
      isplitl [Hp]
      · isplitl [Hp]; · iexact Hp
        iexact Hr
      iexists wval m c (peer c t)
      isplitr; · ipureintro; intro t' ht'; rw [show t' = t by omega]
      iapply (owns_stage_congr c (show t % 2 = (t + 1 + 1) % 2 by omega) _)
      unfold stagePay; iexact Hpay
    iexists X
    iexact Hold
  iexact Hrest

/-! ### The chunks sent -/

/-- The load of the next slot to be filled, whose contents nothing reads. -/
theorem st_load_slot {n t r : ℕ} (hn : n < 8) {L' : sProp 𝕄} {off : Fin 3 → ℕ} {hoff} (ho : off = ![n % 8, 0, 0])
    {hl : sM.view.LoadsAt (Rect.unit (s := S8x512x256) off S1x512x256.size hoff).toLoadRect}
    {k : Vec F S1x512x256 .bf16 → Prog (TpuEff nD τ sig (Elt F) Λ₀ .tc) α}
    (h : ∀ X, St m c O B W iprop(Snd m c n t r ∗ L') M R T ⊢ run c (k X) Q) :
    St m c O B W iprop(Snd m c n t r ∗ L') M R T ⊢ run c (.op (.load sM (Rect.unit (s := S8x512x256) off S1x512x256.size hoff).toLoadRect hl) k) Q := by
  subst ho
  refine run_load (hr := fun _ => rfl) (q := fullShare) (fun _ => True) ?_ (fun X _ => h X)
  unfold St Snd
  iintro ⟨#E, HO, Hx, HB, HW, ⟨⟨Hs, Hs'⟩, HL⟩, Hrest⟩
  ihave Hs := (pop hn _) $$ Hs
  icases Hs with ⟨⟨%X, Hn⟩, Hs⟩
  iexists X
  isplitr; · ipureintro; trivial
  isplitl [Hn]; · iexact Hn
  iintro Hn
  isplitr; · iexact E
  isplitl [HO]; · iexact HO
  isplitl [Hx]; · iexact Hx
  isplitl [HB]; · iexact HB
  isplitl [HW]; · iexact HW
  isplitl [Hs Hs' HL Hn]
  · isplitl [Hs Hs' Hn]
    · isplitl [Hs Hn]
      · iapply (unpop hn _)
        isplitl [Hn]; · iexists X; iexact Hn
        iexact Hs
      iexact Hs'
    iexact HL
  iexact Hrest

theorem st_store_slot {n t r : ℕ} (hn : n < 8) (htn : t ≤ n) {L' : sProp 𝕄} {off : Fin 3 → ℕ} {hoff} (ho : off = ![n % 8, 0, 0]) {w : Vec F S1x512x256 .bf16} (hw : w = V m c (peer c n))
    {hx : (sM.access (Rect.unit (s := S8x512x256) off S1x512x256.size hoff)).Stores Finset.univ} {hm}
    {k : PUnit → Prog (TpuEff nD τ sig (Elt F) Λ₀ .tc) α}
    (h : St m c O B W iprop(Snd m c (n + 1) t r ∗ L') M R T ⊢ run c (k ⟨⟩) Q) :
    St m c O B W iprop(Snd m c n t r ∗ L') M R T ⊢ run c (.op (.store sM (Rect.unit (s := S8x512x256) off S1x512x256.size hoff) w Finset.univ hx hm) k) Q := by
  subst ho hw
  refine run_store (hr := fun _ => rfl) ?_ h
  unfold St Snd
  iintro ⟨#E, HO, Hx, HB, HW, ⟨⟨Hs, Hd, Hs'⟩, HL⟩, Hrest⟩
  ihave Hs := (pop hn _) $$ Hs
  icases Hs with ⟨Hn, Hs⟩
  isplitl [Hn]; · iexact Hn
  iintro Hn
  isplitr; · iexact E
  isplitl [HO]; · iexact HO
  isplitl [Hx]; · iexact Hx
  isplitl [HB]; · iexact HB
  isplitl [HW]; · iexact HW
  isplitl [Hs Hd Hs' HL Hn]
  · isplitl [Hs Hd Hs' Hn]
    · isplitl [Hs]; · iexact Hs
      isplitl [Hd Hn]
      · iapply (push htn (fun k => owns (c : Thread nD τ) (sendAt k) fullShare (V m c (peer c k))))
        isplitl [Hn]; · iexact Hn
        iexact Hd
      iexact Hs'
    iexact HL
  iexact Hrest

/-- The last chunk, which stays on the device, as the load before its own block of the result reads it. -/
theorem st_load_own {r : ℕ} {off : Fin 3 → ℕ} {hoff} (ho : off = ![7 % 8, 0, 0])
    {hl : sM.view.LoadsAt (Rect.unit (s := S8x512x256) off S1x512x256.size hoff).toLoadRect}
    {k : Vec F S1x512x256 .bf16 → Prog (TpuEff nD τ sig (Elt F) Λ₀ .tc) α}
    (h : St m c O B W (Sends m c 8 7 r) M R T ⊢ run c (k (V m c c)) Q) :
    St m c O B W (Sends m c 8 7 r) M R T ⊢ run c (.op (.load sM (Rect.unit (s := S8x512x256) off S1x512x256.size hoff).toLoadRect hl) k) Q := by
  subst ho
  refine run_load (hr := fun _ => rfl) (q := fullShare) (· = V m c c) ?_ (fun X hX => by rw [hX]; exact h)
  unfold St Sends Snd
  iintro ⟨#E, HO, Hx, HB, HW, ⟨⟨Hs, Hd, Hs'⟩, HL⟩, Hrest⟩
  ihave Hd := (pop (show 7 < 8 by omega) _) $$ Hd
  icases Hd with ⟨H7, Hd⟩
  iexists V m c (peer c 7)
  isplitr; · ipureintro; rw [peer_seven]
  isplitl [H7]; · iexact H7
  iintro H7
  isplitr; · iexact E
  isplitl [HO]; · iexact HO
  isplitl [Hx]; · iexact Hx
  isplitl [HB]; · iexact HB
  isplitl [HW]; · iexact HW
  isplitl [Hs Hs' Hd HL H7]
  · isplitl [Hs Hs' Hd H7]
    · isplitl [Hs]; · iexact Hs
      isplitl [Hd H7]
      · iapply (unpop (show 7 < 8 by omega) (fun k => owns (c : Thread nD τ) (sendAt k) fullShare (V m c (peer c k))))
        isplitl [H7]; · iexact H7
        iexact Hd
      iexact Hs'
    iexact HL
  iexact Hrest

theorem st_send {n t a : ℕ} (ht : t < 7) (htn : t < n) {d : Dev nD} (hd : d = peer c t) {src dst : Memref sig .tc .vmem S512x256 .bf16} (hsrc : src = sendSq t)
    (hdst : dst = recvSq c.val) {sS sR : DmaSem sig} (hS : sS = dsem (4 + t % 8)) (hR : sR = dsem (12 + c.val % 8)) {hsc} {hs₁} {hs₂} {hsem}
    {k : PUnit → Prog (TpuEff nD τ sig (Elt F) Λ₀ .tc) α}
    (h : St m c (owed c 7 (t + 1) a) B W (Sends m c n (t + 1) 0) M R T ⊢ run c (k ⟨⟩) Q) :
    St m c (owed c 7 t a) B W (Sends m c n t 0) M R T
      ⊢ run c (.op (.enqueueDma src (.remote (Dev.tc d : Thread nD τ) dst (.dma sS) hsc) (.dma sR) hs₁ hs₂ hsem) k) Q := by
  subst hsrc hdst
  have hc8 : c.val < 8 := c.isLt
  have hne : dv c.val ≠ peer c t := by rw [dv_val]; exact (peer_ne c ht).symm
  refine run_send m hd (p := fullShare) (fun i => V m c (peer c t) (Shape.reshapeEquiv (Shape.Squeezes.numel_eq squeezes_S1x512x256_S512x256) i))
    (4 + t % 8) (12 + c.val % 8) hS hR (by omega) (by omega) (due_snd c ht) (due_rcv hc8 hne) ((amount_snd t).trans (amount_rcv _).symm)
    ((credit_recv _).trans (amount_rcv _).symm) (O := owed c 7 t a) (O' := owed c 7 (t + 1) a) (by rw [amount_rcv]; exact owed_send c 7 ht a) ?_ ?_ ?_ h
  · rw [pay_snd m c (by omega)]
    exact Entails.of_eq (owns_squeeze' c (sendAt t) squeezes_S1x512x256_S512x256 fullShare (V m c (peer c t)))
  · rw [pay_rcv m (peer c t) hc8]
    unfold rcvPay
    rw [dv_val]
    exact Entails.of_eq (owns_squeeze' (peer c t) (recvAt c.val) squeezes_S1x512x256_S512x256 fullShare (V m c (peer c t)))
  · unfold St Sends Snd Land
    rw [amount_snd]
    iintro ⟨#E, HO, Hx, HB, HW, ⟨⟨Hs, Hd, Ht, Hc, Ha, Hdone⟩, HL⟩, Hrest⟩
    ihave Hd := (pop htn _) $$ Hd
    icases Hd with ⟨Hsrc, Hd⟩
    ihave Ht := (pop ht _) $$ Ht
    icases Ht with ⟨⟨Ht₁, Ht₂⟩, Ht⟩
    ihave HL := (pop ht _) $$ HL
    icases HL with ⟨⟨%Y, Hdst⟩, HL⟩
    ihave He₁ := (env_dma m c (show 2 ≤ 4 + t % 8 by omega) (by omega)) $$ E
    icases He₁ with ⟨#HK₁, #Hr₁⟩
    ihave He₂ := (env_dma m (peer c t) (show 2 ≤ 12 + c.val % 8 by omega) (by omega)) $$ E
    icases He₂ with ⟨#HK₂, #Hr₂⟩
    isplitr; · iexact HK₁
    isplitr; · iexact HK₂
    isplitl [Hsrc]
    · iapply (Entails.of_eq (owns_squeeze' c (sendAt t) squeezes_S1x512x256_S512x256 fullShare (V m c (peer c t))).symm)
      iexact Hsrc
    isplitl [Hdst]
    · iexists _
      iapply (Entails.of_eq (owns_squeeze' (peer c t) (recvAt c.val) squeezes_S1x512x256_S512x256 fullShare Y).symm)
      iexact Hdst
    isplitl [HO]; · iexact HO
    isplitl [Ht₁]; · iexact Ht₁
    isplitr; · iexact Hr₁
    isplitl [Ht₂]; · iexact Ht₂
    isplitr; · iexact Hr₂
    iintro ⟨Hcr, HO⟩
    isplitr; · iexact E
    isplitl [HO]; · iexact HO
    isplitl [Hx]; · iexact Hx
    isplitl [HB]; · iexact HB
    isplitl [HW]; · iexact HW
    isplitl [Hs Hd Ht Hc Ha Hdone HL Hcr]
    · isplitl [Hs Hd Ht Hc Ha Hdone Hcr]
      · isplitl [Hs]; · iexact Hs
        isplitl [Hd]; · iexact Hd
        isplitl [Ht]; · iexact Ht
        isplitl [Hc Hcr]
        · iapply (push (Nat.zero_le t) (fun k => cred (tallyAt (sndCell c k) () Ns)))
          isplitl [Hcr]; · iexact Hcr
          iexact Hc
        isplitl [Ha]; · iexact Ha
        iexact Hdone
      iexact HL
    iexact Hrest

/-- A chunk's departure waited for. -/
theorem st_drain {r : ℕ} (hr : r < 7) {src dst : Memref sig .tc .vmem S512x256 .bf16} (hdst : dst = sendSq r)
    {sm : DmaSem sig} (hsm : sm = dsem (4 + r % 8)) {hs₁} {hs₂} {k : PUnit → Prog (TpuEff nD τ sig (Elt F) Λ₀ .tc) α}
    (h : St m c (owed c 7 7 7) B W (Sends m c 8 7 (r + 1)) M R T ⊢ run c (k ⟨⟩) Q) :
    St m c (owed c 7 7 7) B W (Sends m c 8 7 r) M R T ⊢ run c (.op (.waitDma2 sm src dst hs₁ hs₂) k) Q := by
  subst hdst
  refine run_wait m (4 + r % 8) 0 hsm (by omega) (due_snd c hr) ((credit_send r).trans (amount_snd r).symm) (mayWait_end c _) ?_ h
  unfold St Sends Snd
  rw [amount_snd, pay_snd m c (by omega)]
  iintro ⟨#E, HO, Hx, HB, HW, ⟨⟨Hs, Hd, Ht, Hc, Ha, Hdone⟩, HL⟩, Hrest⟩
  ihave Hc := (pop hr _) $$ Hc
  icases Hc with ⟨Hcr, Hc⟩
  ihave Ha := (pop (show r < 8 by omega) _) $$ Ha
  icases Ha with ⟨Hp, Ha⟩
  ihave He := (env_dma m c (show 2 ≤ 4 + r % 8 by omega) (by omega)) $$ E
  icases He with ⟨#HK, -⟩
  isplitr; · iexact HK
  isplitr; · iapply (env_lev m); iexact E
  isplitl [Hcr]; · iexact Hcr
  isplitl [HO]; · iexact HO
  isplitl [Hp]; · iexact Hp
  iintro ⟨HO, Hp, -, Hpay⟩
  imod (close_dma m c (q := 4 + r % 8) (R := 0 + 1) (by omega) (fun r' hr' h => by unfold Due at h; omega)) $$ [Hp] with Hz
  · isplitr; · iexact HK
    iexact Hp
  imodintro
  isplitr; · iexact E
  isplitl [HO]; · iexact HO
  isplitl [Hx]; · iexact Hx
  isplitl [HB]; · iexact HB
  isplitl [HW]; · iexact HW
  isplitl [Hs Hd Ht Hc Ha Hdone HL Hpay Hz]
  · isplitl [Hs Hd Ht Hc Ha Hdone Hpay Hz]
    · isplitl [Hs]; · iexact Hs
      isplitl [Hd]; · iexact Hd
      isplitl [Ht]; · iexact Ht
      isplitl [Hc]; · iexact Hc
      isplitl [Ha]; · iexact Ha
      iapply (push (Nat.zero_le r) (fun k => iprop(some_ c (sendAt k) ∗ semVal (sndCell c k) 0)))
      isplitl [Hpay Hz]
      · isplitl [Hpay]; · iexists _; unfold sndPay; iexact Hpay
        iexact Hz
      iexact Hdone
    iexact HL
  iexact Hrest

/-! ### The maxima sent -/

theorem st_load_max {M' : sProp 𝕄} {off : Fin 2 → ℕ} {hoff} (ho : off = ![0, 0])
    {hl : aM.view.LoadsAt (Rect.unit (s := S1x128) off S1x128.size hoff).toLoadRect}
    {k : Vec F S1x128 .f32 → Prog (TpuEff nD τ sig (Elt F) Λ₀ .tc) α}
    (h : ∀ X, St m c O B W S iprop(Max0 c ∗ M') R T ⊢ run c (k X) Q) :
    St m c O B W S iprop(Max0 c ∗ M') R T ⊢ run c (.op (.load aM (Rect.unit (s := S1x128) off S1x128.size hoff).toLoadRect hl) k) Q := by
  subst ho
  refine run_load (hr := fun _ => rfl) (q := fullShare) (fun _ => True) ?_ (fun X _ => h X)
  unfold St Max0
  iintro ⟨#E, HO, Hx, HB, HW, HS, ⟨⟨⟨%X, Hm⟩, Hm'⟩, HL⟩, Hrest⟩
  iexists X
  isplitr; · ipureintro; trivial
  isplitl [Hm]; · iexact Hm
  iintro Hm
  isplitr; · iexact E
  isplitl [HO]; · iexact HO
  isplitl [Hx]; · iexact Hx
  isplitl [HB]; · iexact HB
  isplitl [HW]; · iexact HW
  isplitl [HS]; · iexact HS
  isplitl [Hm Hm' HL]
  · isplitl [Hm Hm']
    · isplitl [Hm]; · iexists X; iexact Hm
      iexact Hm'
    iexact HL
  iexact Hrest

theorem st_store_max {off : Fin 2 → ℕ} {hoff} (ho : off = ![0, 0]) {w : Vec F S1x128 .f32} (hw : w = amxRow m c)
    {hx : (aM.access (Rect.unit (s := S1x128) off S1x128.size hoff)).Stores Finset.univ} {hm}
    {k : PUnit → Prog (TpuEff nD τ sig (Elt F) Λ₀ .tc) α}
    (h : St m c O B W S (Maxs m c 0 0) R T ⊢ run c (k ⟨⟩) Q) :
    St m c O B W S iprop(Max0 c ∗ LandM c 0) R T ⊢ run c (.op (.store aM (Rect.unit (s := S1x128) off S1x128.size hoff) w Finset.univ hx hm) k) Q := by
  subst ho hw
  refine run_store (hr := fun _ => rfl) ?_ h
  unfold St Max0 Maxs
  iintro ⟨#E, HO, Hx, HB, HW, HS, ⟨⟨Hm, Ht, Ha⟩, HL⟩, Hrest⟩
  isplitl [Hm]; · iexact Hm
  iintro Hm
  isplitr; · iexact E
  isplitl [HO]; · iexact HO
  isplitl [Hx]; · iexact Hx
  isplitl [HB]; · iexact HB
  isplitl [HW]; · iexact HW
  isplitl [HS]; · iexact HS
  isplitl [Hm Ht Ha HL]
  · isplitl [Hm]; · iexact Hm
    isplitl [Ht]; · iexact Ht
    isplitr; · rw [Finset.Ico_self, bigSep_empty]; iempintro
    isplitl [Ha]; · iexact Ha
    isplitr; · rw [Finset.Ico_self, bigSep_empty]; iempintro
    iexact HL
  iexact Hrest

theorem st_send_max {t : ℕ} (ht : t < 7) {d : Dev nD} (hd : d = peer c t) {src dst : Memref sig .tc .vmem S128 .f32} (hsrc : src = maxSq)
    (hdst : dst = rowSq c.val) {sS sR : DmaSem sig} (hS : sS = dsem (20 + t % 8)) (hR : sR = dsem (28 + c.val % 8)) {hsc} {hs₁} {hs₂} {hsem}
    {k : PUnit → Prog (TpuEff nD τ sig (Elt F) Λ₀ .tc) α}
    (h : St m c (owed c 7 7 (t + 1)) B W S (Maxs m c (t + 1) 0) R T ⊢ run c (k ⟨⟩) Q) :
    St m c (owed c 7 7 t) B W S (Maxs m c t 0) R T
      ⊢ run c (.op (.enqueueDma src (.remote (Dev.tc d : Thread nD τ) dst (.dma sS) hsc) (.dma sR) hs₁ hs₂ hsem) k) Q := by
  subst hsrc hdst
  have hc8 : c.val < 8 := c.isLt
  have hne : dv c.val ≠ peer c t := by rw [dv_val]; exact (peer_ne c ht).symm
  refine run_send m hd (p := (sh t).right) (fun i => amxRow m c (Shape.reshapeEquiv (Shape.Squeezes.numel_eq squeezes_S1x128_S128) i))
    (20 + t % 8) (28 + c.val % 8) hS hR (by omega) (by omega) (due_ms c ht) (due_mr hc8 hne) ((amount_ms t).trans (amount_mr _).symm)
    ((credit_row _).trans (amount_mr _).symm) (O := owed c 7 7 t) (O' := owed c 7 7 (t + 1)) (by rw [amount_mr]; exact owed_max c 7 7 ht) ?_ ?_ ?_ h
  · rw [pay_ms m c (by omega)]
    exact Entails.of_eq (owns_squeeze' c maxAt squeezes_S1x128_S128 (sh t).right (amxRow m c))
  · rw [pay_mr m (peer c t) hc8]
    unfold mrPay
    rw [dv_val]
    exact Entails.of_eq (owns_squeeze' (peer c t) (rowAt c.val) squeezes_S1x128_S128 fullShare (amxRow m c))
  · unfold St Maxs LandM
    rw [amount_ms]
    iintro ⟨#E, HO, Hx, HB, HW, HS, ⟨Hm, Ht, Hc, Ha, Hdone, HL⟩, Hrest⟩
    ihave Hm := (owns_halves (c : Thread nD τ) maxAt (sh t) (amxRow m c)).1 $$ Hm
    icases Hm with ⟨Hm, Hsrc⟩
    ihave Ht := (pop ht _) $$ Ht
    icases Ht with ⟨⟨Ht₁, Ht₂⟩, Ht⟩
    ihave HL := (pop ht _) $$ HL
    icases HL with ⟨⟨%Y, Hdst⟩, HL⟩
    ihave He₁ := (env_dma m c (show 2 ≤ 20 + t % 8 by omega) (by omega)) $$ E
    icases He₁ with ⟨#HK₁, #Hr₁⟩
    ihave He₂ := (env_dma m (peer c t) (show 2 ≤ 28 + c.val % 8 by omega) (by omega)) $$ E
    icases He₂ with ⟨#HK₂, #Hr₂⟩
    isplitr; · iexact HK₁
    isplitr; · iexact HK₂
    isplitl [Hsrc]
    · iapply (Entails.of_eq (owns_squeeze' c maxAt squeezes_S1x128_S128 (sh t).right (amxRow m c)).symm)
      iexact Hsrc
    isplitl [Hdst]
    · iexists _
      iapply (Entails.of_eq (owns_squeeze' (peer c t) (rowAt c.val) squeezes_S1x128_S128 fullShare Y).symm)
      iexact Hdst
    isplitl [HO]; · iexact HO
    isplitl [Ht₁]; · iexact Ht₁
    isplitr; · iexact Hr₁
    isplitl [Ht₂]; · iexact Ht₂
    isplitr; · iexact Hr₂
    iintro ⟨Hcr, HO⟩
    isplitr; · iexact E
    isplitl [HO]; · iexact HO
    isplitl [Hx]; · iexact Hx
    isplitl [HB]; · iexact HB
    isplitl [HW]; · iexact HW
    isplitl [HS]; · iexact HS
    isplitl [Hm Ht Hc Ha Hdone HL Hcr]
    · isplitl [Hm]; · iexact Hm
      isplitl [Ht]; · iexact Ht
      isplitl [Hc Hcr]
      · iapply (push (Nat.zero_le t) (fun k => cred (tallyAt (msCell c k) () Na)))
        isplitl [Hcr]; · iexact Hcr
        iexact Hc
      isplitl [Ha]; · iexact Ha
      isplitl [Hdone]; · iexact Hdone
      iexact HL
    iexact Hrest

/-- A maximum's departure waited for. -/
theorem st_drain_max {r : ℕ} (hr : r < 7) {src dst : Memref sig .tc .vmem S128 .f32} (hdst : dst = maxSq)
    {sm : DmaSem sig} (hsm : sm = dsem (20 + r % 8)) {hs₁} {hs₂} {k : PUnit → Prog (TpuEff nD τ sig (Elt F) Λ₀ .tc) α}
    (h : St m c (owed c 7 7 7) B W S (Maxs m c 7 (r + 1)) R T ⊢ run c (k ⟨⟩) Q) :
    St m c (owed c 7 7 7) B W S (Maxs m c 7 r) R T ⊢ run c (.op (.waitDma2 sm src dst hs₁ hs₂) k) Q := by
  subst hdst
  refine run_wait m (20 + r % 8) 0 hsm (by omega) (due_ms c hr) (credit_max.trans (amount_ms r).symm) (mayWait_end c _) ?_ h
  unfold St Maxs
  rw [amount_ms, pay_ms m c (by omega)]
  iintro ⟨#E, HO, Hx, HB, HW, HS, ⟨Hm, Ht, Hc, Ha, Hdone, HL⟩, Hrest⟩
  ihave Hc := (pop hr _) $$ Hc
  icases Hc with ⟨Hcr, Hc⟩
  ihave Ha := (pop (show r < 8 by omega) _) $$ Ha
  icases Ha with ⟨Hp, Ha⟩
  ihave He := (env_dma m c (show 2 ≤ 20 + r % 8 by omega) (by omega)) $$ E
  icases He with ⟨#HK, -⟩
  isplitr; · iexact HK
  isplitr; · iapply (env_lev m); iexact E
  isplitl [Hcr]; · iexact Hcr
  isplitl [HO]; · iexact HO
  isplitl [Hp]; · iexact Hp
  iintro ⟨HO, Hp, -, Hpay⟩
  imod (close_dma m c (q := 20 + r % 8) (R := 0 + 1) (by omega) (fun r' hr' h => by unfold Due at h; omega)) $$ [Hp] with Hz
  · isplitr; · iexact HK
    iexact Hp
  imodintro
  isplitr; · iexact E
  isplitl [HO]; · iexact HO
  isplitl [Hx]; · iexact Hx
  isplitl [HB]; · iexact HB
  isplitl [HW]; · iexact HW
  isplitl [HS]; · iexact HS
  isplitl [Hm Ht Hc Ha Hdone HL Hpay Hz]
  · isplitl [Hm]; · iexact Hm
    isplitl [Ht]; · iexact Ht
    isplitl [Hc]; · iexact Hc
    isplitl [Ha]; · iexact Ha
    isplitl [Hdone Hpay Hz]
    · iapply (push (Nat.zero_le r) (fun k => iprop(owns (c : Thread nD τ) maxAt (sh k).right (amxRow m c) ∗ semVal (msCell c k) 0)))
      isplitl [Hpay Hz]
      · isplitl [Hpay]; · unfold msPay; iexact Hpay
        iexact Hz
      iexact Hdone
    iexact HL
  iexact Hrest

end Moves

end Cert.Exchange
-- ==== Proof.Receive.lean ====
/-
The two conditional stages: receiving what the other devices sent, and writing the blocks of the result.
-/
module

public import proofs.«01_k».proof.Proof.State

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- One member of a family taken out, and put back. -/
theorem take {I : Type} [DecidableEq I] {s : Finset I} {i : I} (hi : i ∈ s) (Φ : I → sProp 𝕄) : bigSep s Φ ⊢ iprop(Φ i ∗ bigSep (s.erase i) Φ) :=
  Entails.of_eq (bigSep_erase hi)
theorem untake {I : Type} [DecidableEq I] {s : Finset I} {i : I} (hi : i ∈ s) (Φ : I → sProp 𝕄) : iprop(Φ i ∗ bigSep (s.erase i) Φ) ⊢ bigSep s Φ :=
  Entails.of_eq (bigSep_erase hi).symm

theorem mem_eight {n : ℕ} (h : n < 8) : n ∈ Finset.Ico 0 8 := Finset.mem_Ico.mpr ⟨Nat.zero_le n, h⟩

/-- What sender `s` delivered, lent from what all have. -/
theorem got_out (c : Dev nD) {s : ℕ} (hs : s < 8) : bigSep (Finset.Ico 0 8) (Got m c)
    ⊢ (iprop(((∃ X, ⌜dv s ≠ c → X = V m (dv s) c⌝ ∗ owns (c : Thread nD τ) (recvAt s) fullShare X)
        ∗ (∃ Y, ⌜dv s ≠ c → Y = amxRow m (dv s)⌝ ∗ owns (c : Thread nD τ) (rowAt s) fullShare Y) ∗ semVal (rcvCell c s) 0 ∗ semVal (mrCell c s) 0)
      ∗ (Got m c s -∗ bigSep (Finset.Ico 0 8) (Got m c))) : sProp 𝕄) := by
  iintro H
  ihave H := (take (mem_eight hs) (Got m c)) $$ H
  icases H with ⟨H, H'⟩
  isplitl [H]; · unfold Got; iexact H
  iintro H
  iapply (untake (mem_eight hs) (Got m c))
  isplitl [H]; · iexact H
  iexact H'

abbrev outAny (c : Dev nD) (s : ℕ) : sProp 𝕄 := iprop(∃ X, ⌜dv s = c → X = outV m c (dv s)⌝ ∗ owns (c : Thread nD τ) (outBlk s) fullShare X)

theorem out_any (c : Dev nD) {s : ℕ} (h : dv s ≠ c) : (some_ c (outBlk s) : sProp 𝕄) ⊢ outAny m c s := by
  iintro ⟨%X, H⟩
  iexists X
  isplitr; · ipureintro; intro he; exact absurd he h
  iexact H

theorem out_own (c : Dev nD) : iprop(owns (c : Thread nD τ) (outBlk c.val) fullShare (outV m c c) ∗ bigSep ((Finset.Ico 0 8).erase c.val) fun s => some_ c (outBlk s))
    ⊢ (bigSep (Finset.Ico 0 8) (outAny m c) : sProp 𝕄) := by
  have hc8 : c.val < 8 := c.isLt
  have hm : (bigSep ((Finset.Ico 0 8).erase c.val) fun s => some_ c (outBlk s)) ⊢ (bigSep ((Finset.Ico 0 8).erase c.val) (outAny m c) : sProp 𝕄) :=
    bigSep_mono fun s hs => by
      obtain ⟨hne, hs⟩ := Finset.mem_erase.mp hs
      have hs8 := (Finset.mem_Ico.mp hs).2
      exact out_any m c fun he => hne (by rw [← congrArg Fin.val he]; exact (Nat.mod_eq_of_lt hs8).symm)
  iintro ⟨H, H'⟩
  iapply (untake (mem_eight hc8) (outAny m c))
  isplitl [H]
  · iexists _; isplitr
    rotate_left
    · iexact H
    ipureintro; intro _; rw [dv_val]
  iapply hm; iexact H'

section Moves

variable {c : Dev nD} {α : Type} {Q : α → sProp (MT nD τ sig Unit (Elt F) ℕ UU ℕ)} {B W S M R T : sProp (MT nD τ sig Unit (Elt F) ℕ UU ℕ)}
variable {O : CellTallies nD τ sig Unit}

theorem run_dite {S₀ : sProp 𝕄} {C : Prop} [Decidable C] {p : C → Prog (TpuEff nD τ sig (Elt F) Λ₀ .tc) α} {p' : ¬ C → Prog (TpuEff nD τ sig (Elt F) Λ₀ .tc) α}
    (h₁ : ∀ hC, S₀ ⊢ run c (p hC) Q) (h₂ : ∀ hC, S₀ ⊢ run c (p' hC) Q) : S₀ ⊢ run c (dite C p p') Q := by
  by_cases hC : C
  · rw [dif_pos hC]; exact h₁ hC
  · rw [dif_neg hC]; exact h₂ hC

theorem run_mono {S₁ S₂ : sProp 𝕄} {p : Prog (TpuEff nD τ sig (Elt F) Λ₀ .tc) α} (hS : S₁ ⊢ S₂) (h : S₂ ⊢ run c p Q) : S₁ ⊢ run c p Q := hS.trans h

/-- A load of a rectangle `r` lying within a piece `R` that is held. -/
theorem run_load_in {cs : CoreSpace} {s : Shape} {e : EltTy} {v : Memref sig .tc cs s e} {r R : Rect s} (hR : ∀ a, R.stride a = 1) (ρ : r.shape.Idx → R.shape.Idx)
    (hρ : ∀ j, r.emb j = R.emb (ρ j)) {hl : v.view.LoadsAt r.toLoadRect} {S₁ : sProp 𝕄}
    {k : (r.shape.Idx → Elt F e) → Prog (TpuEff nD τ sig (Elt F) Λ₀ .tc) α} {q : PosShare TreeShare} (P : (R.shape.Idx → Elt F e) → Prop)
    (hS : S₁ ⊢ iprop(∃ X, ⌜P X⌝ ∗ owns (c : Thread nD τ) (v.slice R hR) q X ∗ (owns (c : Thread nD τ) (v.slice R hR) q X -∗ S₁)))
    (h : ∀ X, P X → (S₁ ⊢ run c (k (fun j => X (ρ j))) Q)) : S₁ ⊢ run c (.op (.load v r.toLoadRect hl) k) Q := by
  refine hS.trans ?_
  iintro ⟨%X, %hX, Ho, Hb⟩
  unfold owns
  icases Ho with ⟨%f, %hf, Hp⟩
  have hsub : v.view.setOn r.set ⊆ (v.view.slice R).set := by
    rw [View.set_slice]
    refine Finset.map_subset_map.mpr fun x hx => ?_
    rw [← Rect.map_emb_univ, Finset.mem_map] at hx ⊢
    obtain ⟨j, -, rfl⟩ := hx
    exact ⟨ρ j, Finset.mem_univ _, (hρ j).symm⟩
  iapply (wp_load 𝒱₀ (c : Thread nD τ) none Set.univ (m := v) (r := r.toLoadRect) (S := (v.slice R hR).view.set) (f := f) (q := q) hsub) $$ [Hp]
  · iexact Hp
  iintro Hp
  have hX' : v.view.readAt (Elt F) r.toLoadRect f = fun j => X (ρ j) := by
    funext j
    rw [← hf]
    show v.view.read (Elt F) f (r.emb j) = v.view.read (Elt F) f (R.emb (ρ j))
    rw [hρ]
  rw [hX']
  iapply (h X hX)
  iapply Hb
  iexists f
  isplitr; · ipureintro; exact hf
  iexact Hp

/-! ### Receiving -/

theorem st_recv₁ {s : ℕ} (hs : s < 8) (hne : dv s ≠ c) {src dst : Memref sig .tc .vmem S512x256 .bf16} (hdst : dst = recvSq s)
    {sm : DmaSem sig} (hsm : sm = dsem (12 + s % 8)) {hs₁} {hs₂} {k : PUnit → Prog (TpuEff nD τ sig (Elt F) Λ₀ .tc) α}
    (h : St m c (owed c 7 7 7) B W S M (RecvHalf m c s) T ⊢ run c (k ⟨⟩) Q) :
    St m c (owed c 7 7 7) B W S M (Recv m c s) T ⊢ run c (.op (.waitDma2 sm src dst hs₁ hs₂) k) Q := by
  subst hdst
  refine run_wait m (12 + s % 8) 0 hsm (by omega) (due_rcv hs hne) ((credit_recv s).trans (amount_rcv s).symm) (mayWait_end c _) ?_ h
  unfold St Recv RecvHalf
  rw [amount_rcv, pay_rcv m c hs]
  iintro ⟨#E, HO, Hx, HB, HW, HS, HM, ⟨Hd, Hg⟩, HT⟩
  ihave Hd := (pop hs _) $$ Hd
  icases Hd with ⟨H, Hd⟩
  unfold Due₀
  rw [if_neg hne]
  icases H with ⟨⟨Hc, Hc'⟩, Hp, Hp'⟩
  ihave He := (env_dma m c (show 2 ≤ 12 + s % 8 by omega) (by omega)) $$ E
  icases He with ⟨#HK, -⟩
  isplitr; · iexact HK
  isplitr; · iapply (env_lev m); iexact E
  isplitl [Hc]; · iexact Hc
  isplitl [HO]; · iexact HO
  isplitl [Hp]; · iexact Hp
  iintro ⟨HO, Hp, -, Hpay⟩
  imod (close_dma m c (q := 12 + s % 8) (R := 0 + 1) (by omega) (fun r' hr' h => by unfold Due at h; omega)) $$ [Hp] with Hz
  · isplitr; · iexact HK
    iexact Hp
  imodintro
  isplitr; · iexact E
  isplitl [HO]; · iexact HO
  isplitl [Hx]; · iexact Hx
  isplitl [HB]; · iexact HB
  isplitl [HW]; · iexact HW
  isplitl [HS]; · iexact HS
  isplitl [HM]; · iexact HM
  isplitl [Hd Hg Hc' Hp' Hpay Hz]
  · isplitl [Hc' Hp' Hpay Hz]
    · isplitl [Hpay]; · unfold rcvPay; iexact Hpay
      isplitl [Hz]; · iexact Hz
      isplitl [Hc']; · iexact Hc'
      iexact Hp'
    isplitl [Hd]; · iexact Hd
    iexact Hg
  iexact HT

theorem st_recv₂ {s : ℕ} (hs : s < 8) (hne : dv s ≠ c) {src dst : Memref sig .tc .vmem S128 .f32} (hdst : dst = rowSq s)
    {sm : DmaSem sig} (hsm : sm = dsem (28 + s % 8)) {hs₁} {hs₂} {k : PUnit → Prog (TpuEff nD τ sig (Elt F) Λ₀ .tc) α}
    (h : St m c (owed c 7 7 7) B W S M (Recv m c (s + 1)) T ⊢ run c (k ⟨⟩) Q) :
    St m c (owed c 7 7 7) B W S M (RecvHalf m c s) T ⊢ run c (.op (.waitDma2 sm src dst hs₁ hs₂) k) Q := by
  subst hdst
  refine run_wait m (28 + s % 8) 0 hsm (by omega) (due_mr hs hne) ((credit_row s).trans (amount_mr s).symm) (mayWait_end c _) ?_ h
  unfold St Recv RecvHalf
  rw [amount_mr, pay_mr m c hs]
  iintro ⟨#E, HO, Hx, HB, HW, HS, HM, ⟨⟨Hv, Hz', Hc, Hp⟩, Hd, Hg⟩, HT⟩
  ihave He := (env_dma m c (show 2 ≤ 28 + s % 8 by omega) (by omega)) $$ E
  icases He with ⟨#HK, -⟩
  isplitr; · iexact HK
  isplitr; · iapply (env_lev m); iexact E
  isplitl [Hc]; · iexact Hc
  isplitl [HO]; · iexact HO
  isplitl [Hp]; · iexact Hp
  iintro ⟨HO, Hp, -, Hpay⟩
  imod (close_dma m c (q := 28 + s % 8) (R := 0 + 1) (by omega) (fun r' hr' h => by unfold Due at h; omega)) $$ [Hp] with Hz
  · isplitr; · iexact HK
    iexact Hp
  imodintro
  isplitr; · iexact E
  isplitl [HO]; · iexact HO
  isplitl [Hx]; · iexact Hx
  isplitl [HB]; · iexact HB
  isplitl [HW]; · iexact HW
  isplitl [HS]; · iexact HS
  isplitl [HM]; · iexact HM
  isplitl [Hd Hg Hv Hz' Hpay Hz]
  · isplitl [Hd]; · iexact Hd
    iapply (push (Nat.zero_le s) (Got m c))
    isplitl [Hv Hz' Hpay Hz]
    · unfold Got mrPay
      isplitl [Hv]
      · iexists _; isplitr
        rotate_left
        · iexact Hv
        ipureintro; intro _; rfl
      isplitl [Hpay]
      · iexists _; isplitr
        rotate_left
        · iexact Hpay
        ipureintro; intro _; rfl
      isplitl [Hz']; · iexact Hz'
      iexact Hz
    iexact Hg
  iexact HT

/-- The device receives nothing from itself: its own two cells close as they are. -/
theorem st_recv_skip {s : ℕ} (hs : s < 8) (he : dv s = c) {p : Prog (TpuEff nD τ sig (Elt F) Λ₀ .tc) α}
    (h : St m c O B W S M (Recv m c (s + 1)) T ⊢ run c p Q) :
    St m c O B W S M (Recv m c s) T ⊢ run c p Q := by
  refine run_update ?_ h
  unfold St Recv
  iintro ⟨#E, HO, Hx, HB, HW, HS, HM, ⟨Hd, Hg⟩, HT⟩
  ihave Hd := (pop hs _) $$ Hd
  icases Hd with ⟨H, Hd⟩
  unfold Due₀
  rw [if_pos he]
  icases H with ⟨⟨⟨%X, Hv⟩, %Y, Hr⟩, Hp, Hp'⟩
  ihave He₁ := (env_dma m c (show 2 ≤ 12 + s % 8 by omega) (by omega)) $$ E
  icases He₁ with ⟨#HK₁, -⟩
  ihave He₂ := (env_dma m c (show 2 ≤ 28 + s % 8 by omega) (by omega)) $$ E
  icases He₂ with ⟨#HK₂, -⟩
  have hval : s % 8 = c.val := congrArg Fin.val he
  imod (close_dma m c (q := 12 + s % 8) (R := 0) (by omega) (fun r' hr' h => by unfold Due at h; omega)) $$ [Hp] with Hz
  · isplitr; · iexact HK₁
    iexact Hp
  imod (close_dma m c (q := 28 + s % 8) (R := 0) (by omega) (fun r' hr' h => by unfold Due at h; omega)) $$ [Hp'] with Hz'
  · isplitr; · iexact HK₂
    iexact Hp'
  imodintro
  isplitr; · iexact E
  isplitl [HO]; · iexact HO
  isplitl [Hx]; · iexact Hx
  isplitl [HB]; · iexact HB
  isplitl [HW]; · iexact HW
  isplitl [HS]; · iexact HS
  isplitl [HM]; · iexact HM
  isplitl [Hd Hg Hv Hr Hz' Hz]
  · isplitl [Hd]; · iexact Hd
    iapply (push (Nat.zero_le s) (Got m c))
    isplitl [Hv Hr Hz' Hz]
    · unfold Got
      isplitl [Hv]
      · iexists _; isplitr
        rotate_left
        · iexact Hv
        ipureintro; intro h; exact absurd he h
      isplitl [Hr]
      · iexists _; isplitr
        rotate_left
        · iexact Hr
        ipureintro; intro h; exact absurd he h
      isplitl [Hz]; · iexact Hz
      iexact Hz'
    iexact Hg
  iexact HT

/-- Sender `s`: the two waits unless the device is that sender itself. -/
theorem st_recv {s : ℕ} (hs : s < 8) {C : Prop} [Decidable C] (hC : C ↔ dv s ≠ c)
    {src₁ dst₁ : Memref sig .tc .vmem S512x256 .bf16} (hdst₁ : dst₁ = recvSq s) {sm₁ : DmaSem sig} (hsm₁ : sm₁ = dsem (12 + s % 8)) {ha₁} {hb₁}
    {src₂ dst₂ : Memref sig .tc .vmem S128 .f32} (hdst₂ : dst₂ = rowSq s) {sm₂ : DmaSem sig} (hsm₂ : sm₂ = dsem (28 + s % 8)) {ha₂} {hb₂}
    {p : Prog (TpuEff nD τ sig (Elt F) Λ₀ .tc) α}
    (h : St m c (owed c 7 7 7) B W S M (Recv m c (s + 1)) T ⊢ run c p Q) :
    St m c (owed c 7 7 7) B W S M (Recv m c s) T
      ⊢ run c (if _ : C then Prog.op (.waitDma2 sm₁ src₁ dst₁ ha₁ hb₁) fun _ => Prog.op (.waitDma2 sm₂ src₂ dst₂ ha₂ hb₂) fun _ => p else p) Q := by
  refine run_dite (fun hc => ?_) (fun hc => ?_)
  · exact st_recv₁ m hs (hC.mp hc) hdst₁ hsm₁ (st_recv₂ m hs (hC.mp hc) hdst₂ hsm₂ h)
  · exact st_recv_skip m hs (not_not.mp fun hn => hc (hC.mpr hn)) h

/-- The first entry of sender `s`'s row, once everything is received. -/
theorem st_load_row {s : ℕ} (hs : s < 8) {off : Fin 2 → ℕ} {hoff} (ho : off = ![s % 8, 0])
    {hl : gM.view.LoadsAt (Rect.unit (s := S8x128) off S1x1.size hoff).toLoadRect}
    {k : Vec F S1x1 .f32 → Prog (TpuEff nD τ sig (Elt F) Λ₀ .tc) α}
    (h : ∀ X : Vec F S1x1 .f32, (dv s ≠ c → ∀ j, X j = amx m (dv s)) → (St m c O B W S M (Recv m c 8) T ⊢ run c (k X) Q)) :
    St m c O B W S M (Recv m c 8) T ⊢ run c (.op (.load gM (Rect.unit (s := S8x128) off S1x1.size hoff).toLoadRect hl) k) Q := by
  subst ho
  refine run_load_in (R := rowR s) (hR := fun _ => rfl) (fun _ => (fun a => ⟨0, by revert a; decide⟩ : S1x128.Idx)) ?_ (q := fullShare)
    (fun Y => dv s ≠ c → Y = amxRow m (dv s)) ?_ (fun Y hY => h _ fun hn j => by rw [hY hn]; rfl)
  · intro j
    have hj : ∀ a : Fin 2, (j a).val = 0 := by
      intro a
      have h1 : (j a).val < S1x1.size a := (j a).isLt
      have h2 : S1x1.size a = 1 := by fin_cases a <;> rfl
      omega
    funext a
    refine Fin.ext ?_
    show (![s % 8, 0] : Fin 2 → ℕ) a + 1 * (j a).val = (![s % 8, 0] : Fin 2 → ℕ) a + 1 * 0
    rw [hj a]
  unfold St Recv
  iintro ⟨#E, HO, Hx, HB, HW, HS, HM, ⟨Hd, Hg⟩, HT⟩
  ihave Hg := (got_out m c hs) $$ Hg
  icases Hg with ⟨⟨Hv, ⟨%Y, %hY, Hr⟩, Hz⟩, Hback⟩
  iexists Y
  isplitr; · ipureintro; exact hY
  isplitl [Hr]; · iexact Hr
  iintro Hr
  isplitr; · iexact E
  isplitl [HO]; · iexact HO
  isplitl [Hx]; · iexact Hx
  isplitl [HB]; · iexact HB
  isplitl [HW]; · iexact HW
  isplitl [HS]; · iexact HS
  isplitl [HM]; · iexact HM
  isplitl [Hd Hback Hv Hr Hz]
  · isplitl [Hd]; · iexact Hd
    iapply Hback
    unfold Got
    isplitl [Hv]; · iexact Hv
    isplitl [Hr]
    · iexists Y; isplitr; · ipureintro; exact hY
      iexact Hr
    iexact Hz
  iexact HT

/-- Sender `s`'s chunk, once everything is received. -/
theorem st_load_recv {s : ℕ} (hs : s < 8) (hne : dv s ≠ c) {off : Fin 3 → ℕ} {hoff} (ho : off = ![s % 8, 0, 0])
    {hl : qM.view.LoadsAt (Rect.unit (s := S8x512x256) off S1x512x256.size hoff).toLoadRect}
    {k : Vec F S1x512x256 .bf16 → Prog (TpuEff nD τ sig (Elt F) Λ₀ .tc) α}
    (h : St m c O B W S M (Recv m c 8) T ⊢ run c (k (V m (dv s) c)) Q) :
    St m c O B W S M (Recv m c 8) T ⊢ run c (.op (.load qM (Rect.unit (s := S8x512x256) off S1x512x256.size hoff).toLoadRect hl) k) Q := by
  subst ho
  refine run_load (hr := fun _ => rfl) (q := fullShare) (· = V m (dv s) c) ?_ (fun X hX => by rw [hX]; exact h)
  unfold St Recv
  iintro ⟨#E, HO, Hx, HB, HW, HS, HM, ⟨Hd, Hg⟩, HT⟩
  ihave Hg := (got_out m c hs) $$ Hg
  icases Hg with ⟨⟨⟨%X, %hX, Hv⟩, Hgot⟩, Hback⟩
  iexists X
  isplitr; · ipureintro; exact hX hne
  isplitl [Hv]; · iexact Hv
  iintro Hv
  isplitr; · iexact E
  isplitl [HO]; · iexact HO
  isplitl [Hx]; · iexact Hx
  isplitl [HB]; · iexact HB
  isplitl [HW]; · iexact HW
  isplitl [HS]; · iexact HS
  isplitl [HM]; · iexact HM
  isplitl [Hd Hback Hgot Hv]
  · isplitl [Hd]; · iexact Hd
    iapply Hback
    unfold Got
    isplitl [Hv]
    · iexists X; isplitr; · ipureintro; exact hX
      iexact Hv
    iexact Hgot
  iexact HT

/-! ### The result -/

theorem st_load_out0 {off : Fin 2 → ℕ} {hoff} (ho : off = ![512 * (c.val % 8), 0])
    {hl : oM.view.LoadsAt (Rect.unit (s := S4096x256) off S512x256.size hoff).toLoadRect}
    {k : Vec F S512x256 .f32 → Prog (TpuEff nD τ sig (Elt F) Λ₀ .tc) α}
    (h : ∀ X, St m c O B W S M R (Out0 c) ⊢ run c (k X) Q) :
    St m c O B W S M R (Out0 c) ⊢ run c (.op (.load oM (Rect.unit (s := S4096x256) off S512x256.size hoff).toLoadRect hl) k) Q := by
  subst ho
  refine run_load (hr := fun _ => rfl) (q := fullShare) (fun _ => True) ?_ (fun X _ => h X)
  have hc8 : c.val < 8 := c.isLt
  unfold St Out0
  iintro ⟨#E, HO, Hx, HB, HW, HS, HM, HR, HT⟩
  ihave HT := (take (mem_eight hc8) (fun s => some_ c (outBlk s))) $$ HT
  icases HT with ⟨⟨%X, Hn⟩, HT⟩
  iexists X
  isplitr; · ipureintro; trivial
  isplitl [Hn]; · iexact Hn
  iintro Hn
  isplitr; · iexact E
  isplitl [HO]; · iexact HO
  isplitl [Hx]; · iexact Hx
  isplitl [HB]; · iexact HB
  isplitl [HW]; · iexact HW
  isplitl [HS]; · iexact HS
  isplitl [HM]; · iexact HM
  isplitl [HR]; · iexact HR
  iapply (untake (mem_eight hc8) (fun s => some_ c (outBlk s)))
  isplitl [Hn]; · iexists X; iexact Hn
  iexact HT

theorem st_store_out0 {off : Fin 2 → ℕ} {hoff} (ho : off = ![512 * (c.val % 8), 0]) {w : Vec F S512x256 .f32} (hw : w = outV m c c)
    {hx : (oM.access (Rect.unit (s := S4096x256) off S512x256.size hoff)).Stores Finset.univ} {hm}
    {k : PUnit → Prog (TpuEff nD τ sig (Elt F) Λ₀ .tc) α}
    (h : St m c O B W S M R (Out m c 0) ⊢ run c (k ⟨⟩) Q) :
    St m c O B W S M R (Out0 c) ⊢ run c (.op (.store oM (Rect.unit (s := S4096x256) off S512x256.size hoff) w Finset.univ hx hm) k) Q := by
  subst ho hw
  refine run_store (hr := fun _ => rfl) ?_ h
  have hc8 : c.val < 8 := c.isLt
  unfold St Out0 Out
  iintro ⟨#E, HO, Hx, HB, HW, HS, HM, HR, HT⟩
  ihave HT := (take (mem_eight hc8) (fun s => some_ c (outBlk s))) $$ HT
  icases HT with ⟨Hn, HT⟩
  isplitl [Hn]; · iexact Hn
  iintro Hn
  isplitr; · iexact E
  isplitl [HO]; · iexact HO
  isplitl [Hx]; · iexact Hx
  isplitl [HB]; · iexact HB
  isplitl [HW]; · iexact HW
  isplitl [HS]; · iexact HS
  isplitl [HM]; · iexact HM
  isplitl [HR]; · iexact HR
  isplitl [HT Hn]
  · iapply (out_own m c)
    isplitl [Hn]; · iexact Hn
    iexact HT
  rw [Finset.Ico_self, bigSep_empty]; iempintro

theorem st_load_out {n : ℕ} (hn : n < 8) {off : Fin 2 → ℕ} {hoff} (ho : off = ![512 * (n % 8), 0])
    {hl : oM.view.LoadsAt (Rect.unit (s := S4096x256) off S512x256.size hoff).toLoadRect}
    {k : Vec F S512x256 .f32 → Prog (TpuEff nD τ sig (Elt F) Λ₀ .tc) α}
    (h : ∀ X, St m c O B W S M R (Out m c n) ⊢ run c (k X) Q) :
    St m c O B W S M R (Out m c n) ⊢ run c (.op (.load oM (Rect.unit (s := S4096x256) off S512x256.size hoff).toLoadRect hl) k) Q := by
  subst ho
  refine run_load (hr := fun _ => rfl) (q := fullShare) (fun _ => True) ?_ (fun X _ => h X)
  unfold St Out
  iintro ⟨#E, HO, Hx, HB, HW, HS, HM, HR, Hn, HT⟩
  ihave Hn := (pop hn _) $$ Hn
  icases Hn with ⟨⟨%X, %hX, Hn⟩, Hn'⟩
  iexists X
  isplitr; · ipureintro; trivial
  isplitl [Hn]; · iexact Hn
  iintro Hn
  isplitr; · iexact E
  isplitl [HO]; · iexact HO
  isplitl [Hx]; · iexact Hx
  isplitl [HB]; · iexact HB
  isplitl [HW]; · iexact HW
  isplitl [HS]; · iexact HS
  isplitl [HM]; · iexact HM
  isplitl [HR]; · iexact HR
  isplitl [Hn Hn']
  · iapply (unpop hn _)
    isplitl [Hn]
    · iexists X; isplitr; · ipureintro; exact hX
      iexact Hn
    iexact Hn'
  iexact HT

theorem st_store_out {n : ℕ} (hn : n < 8) {off : Fin 2 → ℕ} {hoff} (ho : off = ![512 * (n % 8), 0]) {w : Vec F S512x256 .f32} (hw : w = outV m c (dv n))
    {hx : (oM.access (Rect.unit (s := S4096x256) off S512x256.size hoff)).Stores Finset.univ} {hm}
    {k : PUnit → Prog (TpuEff nD τ sig (Elt F) Λ₀ .tc) α}
    (h : St m c O B W S M R (Out m c (n + 1)) ⊢ run c (k ⟨⟩) Q) :
    St m c O B W S M R (Out m c n) ⊢ run c (.op (.store oM (Rect.unit (s := S4096x256) off S512x256.size hoff) w Finset.univ hx hm) k) Q := by
  subst ho hw
  refine run_store (hr := fun _ => rfl) ?_ h
  unfold St Out
  iintro ⟨#E, HO, Hx, HB, HW, HS, HM, HR, Hn, HT⟩
  ihave Hn := (pop hn _) $$ Hn
  icases Hn with ⟨⟨%X, -, Hn⟩, Hn'⟩
  isplitl [Hn]; · iexists X; iexact Hn
  iintro Hn
  isplitr; · iexact E
  isplitl [HO]; · iexact HO
  isplitl [Hx]; · iexact Hx
  isplitl [HB]; · iexact HB
  isplitl [HW]; · iexact HW
  isplitl [HS]; · iexact HS
  isplitl [HM]; · iexact HM
  isplitl [HR]; · iexact HR
  isplitl [Hn']; · iexact Hn'
  iapply (push (Nat.zero_le n) (outDone m c))
  isplitl [Hn]; · unfold outDone; iexact Hn
  iexact HT

theorem st_out_skip {n : ℕ} (hn : n < 8) (he : dv n = c) {p : Prog (TpuEff nD τ sig (Elt F) Λ₀ .tc) α}
    (h : St m c O B W S M R (Out m c (n + 1)) ⊢ run c p Q) :
    St m c O B W S M R (Out m c n) ⊢ run c p Q := by
  refine run_mono ?_ h
  unfold St Out
  iintro ⟨#E, HO, Hx, HB, HW, HS, HM, HR, Hn, HT⟩
  ihave Hn := (pop hn _) $$ Hn
  icases Hn with ⟨⟨%X, %hX, Hn⟩, Hn'⟩
  isplitr; · iexact E
  isplitl [HO]; · iexact HO
  isplitl [Hx]; · iexact Hx
  isplitl [HB]; · iexact HB
  isplitl [HW]; · iexact HW
  isplitl [HS]; · iexact HS
  isplitl [HM]; · iexact HM
  isplitl [HR]; · iexact HR
  isplitl [Hn']; · iexact Hn'
  iapply (push (Nat.zero_le n) (outDone m c))
  isplitl [Hn]; · unfold outDone; rw [← hX he]; iexact Hn
  iexact HT

/-- Block `s` of the result, unless it is the device's own. -/
theorem st_out {s : ℕ} (hs : s < 8) {C : Prop} [Decidable C] (hC : C ↔ dv s ≠ c)
    {off₁ : Fin 3 → ℕ} {hoff₁} (ho₁ : off₁ = ![s % 8, 0, 0]) {hl₁ : qM.view.LoadsAt (Rect.unit (s := S8x512x256) off₁ S1x512x256.size hoff₁).toLoadRect}
    {off₂ : Fin 2 → ℕ} {hoff₂} (ho₂ : off₂ = ![512 * (s % 8), 0]) {hl₂ : oM.view.LoadsAt (Rect.unit (s := S4096x256) off₂ S512x256.size hoff₂).toLoadRect}
    {f : Vec F S1x512x256 .bf16 → Vec F S512x256 .f32} (hf : f (V m (dv s) c) = outV m c (dv s))
    {hx : (oM.access (Rect.unit (s := S4096x256) off₂ S512x256.size hoff₂)).Stores Finset.univ} {hm}
    {p : Prog (TpuEff nD τ sig (Elt F) Λ₀ .tc) α}
    (h : St m c O B W S M (Recv m c 8) (Out m c (s + 1)) ⊢ run c p Q) :
    St m c O B W S M (Recv m c 8) (Out m c s)
      ⊢ run c (if _ : C then Prog.op (.load qM (Rect.unit (s := S8x512x256) off₁ S1x512x256.size hoff₁).toLoadRect hl₁) fun X =>
            Prog.op (.load oM (Rect.unit (s := S4096x256) off₂ S512x256.size hoff₂).toLoadRect hl₂) fun _ =>
            Prog.op (.store oM (Rect.unit (s := S4096x256) off₂ S512x256.size hoff₂) (f X) Finset.univ hx hm) fun _ => p
          else p) Q := by
  refine run_dite (fun hc => ?_) (fun hc => ?_)
  · exact st_load_recv m hs (hC.mp hc) ho₁ (st_load_out m hs ho₂ fun _ => st_store_out m hs ho₂ hf h)
  · exact st_out_skip m hs (not_not.mp fun hn => hc (hC.mpr hn)) h

end Moves

end Cert.Exchange
-- ==== Proof.Body.lean ====
/-
The body of a device, operation by operation: the entry signals, the eight steps that compute a chunk and send it, the
exchange of the maxima, the receives, the rounding of the received chunks, the waits for the device's own sends.
-/
module

public import proofs.«01_k».proof.Proof.Receive

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The devices, places and semaphores the body names -/

/-- The word a device computes its own number into. -/
def me (c : Dev nD) : BitVec 32 := Scalar.remsi (Scalar.divsi (Dev.word c) 1#32) 8#32

theorem dev1 (c : Dev nD) : (⟨k0_dev1 c, k0_dev1_lt c⟩ : Dev nD) = peer c 0 := by revert c; decide +kernel
theorem dev2 (c : Dev nD) : (⟨k0_dev2 c, k0_dev2_lt c⟩ : Dev nD) = peer c 1 := by revert c; decide +kernel
theorem dev3 (c : Dev nD) : (⟨k0_dev3 c, k0_dev3_lt c⟩ : Dev nD) = peer c 2 := by revert c; decide +kernel
theorem dev4 (c : Dev nD) : (⟨k0_dev4 c, k0_dev4_lt c⟩ : Dev nD) = peer c 3 := by revert c; decide +kernel
theorem dev5 (c : Dev nD) : (⟨k0_dev5 c, k0_dev5_lt c⟩ : Dev nD) = peer c 4 := by revert c; decide +kernel
theorem dev6 (c : Dev nD) : (⟨k0_dev6 c, k0_dev6_lt c⟩ : Dev nD) = peer c 5 := by revert c; decide +kernel
theorem dev7 (c : Dev nD) : (⟨k0_dev7 c, k0_dev7_lt c⟩ : Dev nD) = peer c 6 := by revert c; decide +kernel
theorem dev8 (c : Dev nD) : (⟨k0_dev8 c, k0_dev8_lt c⟩ : Dev nD) = peer c 0 := by revert c; decide +kernel
theorem dev9 (c : Dev nD) : (⟨k0_dev9 c, k0_dev9_lt c⟩ : Dev nD) = peer c 1 := by revert c; decide +kernel
theorem dev10 (c : Dev nD) : (⟨k0_dev10 c, k0_dev10_lt c⟩ : Dev nD) = peer c 2 := by revert c; decide +kernel
theorem dev11 (c : Dev nD) : (⟨k0_dev11 c, k0_dev11_lt c⟩ : Dev nD) = peer c 3 := by revert c; decide +kernel
theorem dev12 (c : Dev nD) : (⟨k0_dev12 c, k0_dev12_lt c⟩ : Dev nD) = peer c 4 := by revert c; decide +kernel
theorem dev13 (c : Dev nD) : (⟨k0_dev13 c, k0_dev13_lt c⟩ : Dev nD) = peer c 5 := by revert c; decide +kernel
theorem dev14 (c : Dev nD) : (⟨k0_dev14 c, k0_dev14_lt c⟩ : Dev nD) = peer c 6 := by revert c; decide +kernel
theorem dev15 (c : Dev nD) : (⟨k0_dev15 c, k0_dev15_lt c⟩ : Dev nD) = peer c 0 := by revert c; decide +kernel
theorem dev16 (c : Dev nD) : (⟨k0_dev16 c, k0_dev16_lt c⟩ : Dev nD) = peer c 1 := by revert c; decide +kernel
theorem dev17 (c : Dev nD) : (⟨k0_dev17 c, k0_dev17_lt c⟩ : Dev nD) = peer c 2 := by revert c; decide +kernel
theorem dev18 (c : Dev nD) : (⟨k0_dev18 c, k0_dev18_lt c⟩ : Dev nD) = peer c 3 := by revert c; decide +kernel
theorem dev19 (c : Dev nD) : (⟨k0_dev19 c, k0_dev19_lt c⟩ : Dev nD) = peer c 4 := by revert c; decide +kernel
theorem dev20 (c : Dev nD) : (⟨k0_dev20 c, k0_dev20_lt c⟩ : Dev nD) = peer c 5 := by revert c; decide +kernel
theorem dev21 (c : Dev nD) : (⟨k0_dev21 c, k0_dev21_lt c⟩ : Dev nD) = peer c 6 := by revert c; decide +kernel

/-- The columns of `b` that step `t` stages. -/
theorem cols_at (c : Dev nD) (t : Fin 8) : k0_off1 c (BitVec.ofNat 32 t.val) = ![0, 256 * (peer c t.val).val] := by revert c t; decide +kernel

theorem recv_at (c : Dev nD) {hoff} :
    (qM.slice (Rect.unit (s := S8x512x256) (k0_off3 c) S1x512x256.size hoff) (fun _ => rfl)).squeeze S512x256 squeezes_S1x512x256_S512x256 = recvSq c.val := by
  have h : k0_off3 c = ![c.val % 8, 0, 0] := by rw [k0_off3_eq]; revert c; decide +kernel
  revert hoff; rw [h]; intro; rfl
theorem row_at (c : Dev nD) {hoff} :
    (gM.slice (Rect.unit (s := S8x128) (k0_off4 c) S1x128.size hoff) (fun _ => rfl)).squeeze S128 squeezes_S1x128_S128 = rowSq c.val := by
  have h : k0_off4 c = ![c.val % 8, 0] := by rw [k0_off4_eq]; revert c; decide +kernel
  revert hoff; rw [h]; intro; rfl
theorem recv_sem (c : Dev nD) :
    ((cc0_scratch7.slice (Rect.unit (s := S8) (k0_off2 c) S1.size (k0_off2_inb c))).squeeze S_ squeezes_S1_S_).sem = dsem (12 + c.val % 8) := by revert c; decide +kernel
theorem row_sem (c : Dev nD) :
    ((cc0_scratch9.slice (Rect.unit (s := S8) (k0_off2 c) S1.size (k0_off2_inb c))).squeeze S_ squeezes_S1_S_).sem = dsem (28 + c.val % 8) := by revert c; decide +kernel
theorem out_at (c : Dev nD) : k0_off5 c = ![512 * (c.val % 8), 0] := by rw [k0_off5_eq]; revert c; decide +kernel

/-! ## The body's parts on the buffers it is launched with -/

section
variable {c : Dev nD} {B W S M R T : sProp (MT nD τ sig Unit (Elt F) ℕ UU ℕ)}
variable {O : CellTallies nD τ sig Unit}

abbrev onBufs {β : Type 1} (f : (arg0 : Memref sig .tc .vmem S512x4096 .f32) → arg0.IsWhole → (arg1 : Memref sig .tc .hbm S4096x2048 .f32) → arg1.IsWhole →
    (arg2 : Memref sig .tc .vmem S4096x256 .f32) → arg2.IsWhole → (arg3 : Memref sig .tc .vmem S2x4096x256 .f32) → arg3.IsWhole →
    (arg4 : Memref sig .tc .vmem S8x512x256 .bf16) → arg4.IsWhole → (arg5 : Memref sig .tc .vmem S8x512x256 .bf16) → arg5.IsWhole →
    (arg6 : Memref sig .tc .vmem S1x128 .f32) → arg6.IsWhole → (arg7 : Memref sig .tc .vmem S8x128 .f32) → arg7.IsWhole →
    DmaSems sig S2 → DmaSems sig S8 → DmaSems sig S8 → DmaSems sig S8 → DmaSems sig S8 → β) : β :=
  f xM (Memref.isWhole_whole _) bM (Memref.isWhole_whole _) oM (Memref.isWhole_whole _) wM (Memref.isWhole_whole _) sM (Memref.isWhole_whole _)
    qM (Memref.isWhole_whole _) aM (Memref.isWhole_whole _) gM (Memref.isWhole_whole _) cc0_scratch5 cc0_scratch6 cc0_scratch7 cc0_scratch8 cc0_scratch9

theorem part1 {Q} (h : ∀ v30 c8 v31, St m c (owed c 2 0 0) (Bar c 2) W S M R T ⊢ Q ⟨c, me c, SemArray.scalar (sig.barrier 0 rfl), v30, c8, v31⟩) :
    St m c (owed c 0 0 0) (Bar c 0) W S M R T ⊢ run c (onBufs k0_part1) Q := by
  simp only [onBufs]
  rw [k0_part1_eq_skeleton]; unfold k0_part1_skel
  simp only [semSignalWord, semWaitWord, Prog.lift, Prog.bind_op, Prog.bind_ret, Prog.pure_eq_ret]
  refine run_device ?_
  refine st_signal m (s := 0) (by omega) (dev1 c) ?_
  refine st_signal m (s := 1) (by omega) (dev2 c) ?_
  exact run_ret (h _ _ _)

theorem part2 {v2 v30 c8 v31} {Q} (h : ∀ v59 v64 v65, St m c (owed c 4 0 0) (Bar c 4) W S M R T ⊢ Q ⟨v59, v64, v65⟩) :
    St m c (owed c 2 0 0) (Bar c 2) W S M R T ⊢ run c (onBufs k0_part2 c v2 (SemArray.scalar (sig.barrier 0 rfl)) v30 c8 v31) Q := by
  simp only [onBufs]
  rw [k0_part2_eq_skeleton]; unfold k0_part2_skel
  simp only [semSignalWord, semWaitWord, Prog.lift, Prog.bind_op, Prog.bind_ret, Prog.pure_eq_ret]
  refine st_signal m (s := 2) (by omega) (dev3 c) ?_
  refine st_signal m (s := 3) (by omega) (dev4 c) ?_
  exact run_ret (h _ _ _)

theorem part3 {v2 v59 v64 v65} {Q} (h : ∀ v96 c8, St m c (owed c 7 0 0) (Bar c 7) W S M R T ⊢ Q ⟨v96, c8⟩) :
    St m c (owed c 4 0 0) (Bar c 4) W S M R T ⊢ run c (onBufs k0_part3 c v2 (SemArray.scalar (sig.barrier 0 rfl)) v59 v64 v65) Q := by
  simp only [onBufs]
  rw [k0_part3_eq_skeleton]; unfold k0_part3_skel
  simp only [semSignalWord, semWaitWord, Prog.lift, Prog.bind_op, Prog.bind_ret, Prog.pure_eq_ret]
  refine st_signal m (s := 4) (by omega) (dev5 c) ?_
  refine st_signal m (s := 5) (by omega) (dev6 c) ?_
  refine st_signal m (s := 6) (by omega) (dev7 c) ?_
  exact run_ret (h _ _)

theorem part4 {v2 v96 c8} {Q} (h : St m c (owed c 7 0 0) (semVal (barCell c) 0) (Wbusy m c 0) (iprop(S ∗ Land c 0)) (iprop(M ∗ LandM c 0)) R T ⊢ Q ⟨⟩) :
    St m c (owed c 7 0 0) (Bar c 7) (Wfree m c 0) S M R T ⊢ run c (onBufs k0_part4 c v2 (SemArray.scalar (sig.barrier 0 rfl)) v96 c8) Q := by
  simp only [onBufs]
  rw [k0_part4_eq_skeleton]; unfold k0_part4_skel
  simp only [semSignalWord, semWaitWord, Prog.lift, Prog.bind_op, Prog.bind_ret, Prog.pure_eq_ret]
  refine st_issue m (t := 0) (by omega) (cols_at c 0) rfl (by decide +kernel) ?_
  refine st_wait_bar m ?_
  exact run_ret h

theorem part5 {v2} {Q} (h : St m c (owed c 7 0 0) B (Wbusy m c 1) S M R T ⊢ Q ⟨maxTo m c 1, k0_pay3 (xval m c) (wval m c (peer c 0))⟩) :
    St m c (owed c 7 0 0) B (Wbusy m c 0) S M R T ⊢ run c (onBufs k0_part5 c v2) Q := by
  simp only [onBufs]
  rw [k0_part5_eq_skeleton]; unfold k0_part5_skel
  simp only [semSignalWord, semWaitWord, Prog.lift, Prog.bind_op, Prog.bind_ret, Prog.pure_eq_ret]
  refine st_wait_w m (t := 0) (by omega) rfl (by decide +kernel) ?_
  refine st_issue m (t := 1) (by omega) (cols_at c 1) rfl (by decide +kernel) ?_
  refine st_load_x m ?_
  refine st_load_w m (t := 0) rfl ?_
  exact run_ret h

theorem part6 {v2 v161} (hv : k0_pay4 v161 = V m c (peer c 0)) {Q} (h : ∀ a b d e f, St m c (owed c 7 1 0) B W (Sends m c 1 1 0) M R T ⊢ Q ⟨a, b, d, e, f⟩) :
    St m c (owed c 7 0 0) B W (Sends m c 0 0 0) M R T ⊢ run c (onBufs k0_part6 c v2 v161) Q := by
  simp only [onBufs]
  rw [k0_part6_eq_skeleton]; unfold k0_part6_skel
  simp only [semSignalWord, semWaitWord, Prog.lift, Prog.bind_op, Prog.bind_ret, Prog.pure_eq_ret]
  refine st_load_slot m (n := 0) (t := 0) (r := 0) (by omega) rfl (fun X => ?_)
  refine st_store_slot m (n := 0) (t := 0) (by omega) le_rfl rfl hv ?_
  refine st_send m (n := 1) (t := 0) (by omega) (by omega) (dev8 c) rfl (recv_at c) (by decide +kernel) (recv_sem c) ?_
  exact run_ret (h _ _ _ _ _)

theorem part7 {v2 a b d e f} {Q} (h : St m c (owed c 7 1 0) B (Wbusy m c 2) S M R T ⊢ Q ⟨k0_pay5 (xval m c), k0_pay6 (wval m c (peer c 1))⟩) :
    St m c (owed c 7 1 0) B (Wbusy m c 1) S M R T ⊢ run c (onBufs k0_part7 c v2 a b d e f) Q := by
  simp only [onBufs]
  rw [k0_part7_eq_skeleton]; unfold k0_part7_skel
  simp only [semSignalWord, semWaitWord, Prog.lift, Prog.bind_op, Prog.bind_ret, Prog.pure_eq_ret]
  refine st_wait_w m (t := 1) (by omega) rfl (by decide +kernel) ?_
  refine st_issue m (t := 2) (by omega) (cols_at c 2) rfl (by decide +kernel) ?_
  refine st_load_x m ?_
  refine st_load_w m (t := 1) rfl ?_
  exact run_ret h

theorem part8 {v2 v160 v224 v226} (hv : k0_pay9 v224 v226 = V m c (peer c 1)) {Q} (h : ∀ a, St m c (owed c 7 2 0) B W (Sends m c 2 2 0) M R T ⊢ Q ⟨k0_pay8 v160 v224 v226, a⟩) :
    St m c (owed c 7 1 0) B W (Sends m c 1 1 0) M R T ⊢ run c (onBufs k0_part8 c v2 v160 v224 v226) Q := by
  simp only [onBufs]
  rw [k0_part8_eq_skeleton]; unfold k0_part8_skel
  simp only [semSignalWord, semWaitWord, Prog.lift, Prog.bind_op, Prog.bind_ret, Prog.pure_eq_ret]
  refine st_load_slot m (n := 1) (t := 1) (r := 0) (by omega) rfl (fun X => ?_)
  refine st_store_slot m (n := 1) (t := 1) (by omega) le_rfl rfl hv ?_
  refine st_send m (n := 2) (t := 1) (by omega) (by omega) (dev9 c) rfl (recv_at c) (by decide +kernel) (recv_sem c) ?_
  exact run_ret (h _)

theorem part9 {v2 a} {Q} (h : St m c (owed c 7 2 0) B (Wfree m c 3) S M R T ⊢ Q ⟨⟩) :
    St m c (owed c 7 2 0) B (Wbusy m c 2) S M R T ⊢ run c (onBufs k0_part9 c v2 a) Q := by
  simp only [onBufs]
  rw [k0_part9_eq_skeleton]; unfold k0_part9_skel
  simp only [semSignalWord, semWaitWord, Prog.lift, Prog.bind_op, Prog.bind_ret, Prog.pure_eq_ret]
  refine st_wait_w m (t := 2) (by omega) rfl (by decide +kernel) ?_
  exact run_ret h

theorem part10 {v2} {Q} (h : St m c (owed c 7 2 0) B (Wbusy m c 3) (Sends m c 3 2 0) M R T ⊢ Q (maxTo m c 3)) :
    St m c (owed c 7 2 0) B (Wfree m c 3) (Sends m c 2 2 0) M R T ⊢ run c (onBufs k0_part10 c v2 (maxTo m c 2)) Q := by
  simp only [onBufs]
  rw [k0_part10_eq_skeleton]; unfold k0_part10_skel
  simp only [semSignalWord, semWaitWord, Prog.lift, Prog.bind_op, Prog.bind_ret, Prog.pure_eq_ret]
  refine st_issue m (t := 3) (by omega) (cols_at c 3) rfl (by decide +kernel) ?_
  refine st_load_x m ?_
  refine st_load_w m (t := 2) rfl ?_
  refine st_load_slot m (n := 2) (t := 2) (r := 0) (by omega) rfl (fun X => ?_)
  refine st_store_slot m (n := 2) (t := 2) (by omega) le_rfl rfl rfl ?_
  exact run_ret h

theorem part11 {v2} {Q} (h : ∀ a b d e f, St m c (owed c 7 3 0) B (Wfree m c 4) (Sends m c 3 3 0) M R T ⊢ Q ⟨a, b, d, e, f⟩) :
    St m c (owed c 7 2 0) B (Wbusy m c 3) (Sends m c 3 2 0) M R T ⊢ run c (onBufs k0_part11 c v2) Q := by
  simp only [onBufs]
  rw [k0_part11_eq_skeleton]; unfold k0_part11_skel
  simp only [semSignalWord, semWaitWord, Prog.lift, Prog.bind_op, Prog.bind_ret, Prog.pure_eq_ret]
  refine st_send m (n := 3) (t := 2) (by omega) (by omega) (dev10 c) rfl (recv_at c) (by decide +kernel) (recv_sem c) ?_
  refine st_wait_w m (t := 3) (by omega) rfl (by decide +kernel) ?_
  exact run_ret (h _ _ _ _ _)

theorem part12 {v2 a b d e f} {Q} (h : ∀ a b d e f, St m c (owed c 7 3 0) B (Wbusy m c 4) (Sends m c 4 3 0) M R T ⊢ Q ⟨maxTo m c 4, a, b, d, e, f⟩) :
    St m c (owed c 7 3 0) B (Wfree m c 4) (Sends m c 3 3 0) M R T ⊢ run c (onBufs k0_part12 c v2 (maxTo m c 3) a b d e f) Q := by
  simp only [onBufs]
  rw [k0_part12_eq_skeleton]; unfold k0_part12_skel
  simp only [semSignalWord, semWaitWord, Prog.lift, Prog.bind_op, Prog.bind_ret, Prog.pure_eq_ret]
  refine st_issue m (t := 4) (by omega) (cols_at c 4) rfl (by decide +kernel) ?_
  refine st_load_x m ?_
  refine st_load_w m (t := 3) rfl ?_
  refine st_load_slot m (n := 3) (t := 3) (r := 0) (by omega) rfl (fun X => ?_)
  refine st_store_slot m (n := 3) (t := 3) (by omega) le_rfl rfl rfl ?_
  exact run_ret (h _ _ _ _ _)

theorem part13 {v2 a b d e f} {Q} (h : ∀ a b, St m c (owed c 7 4 0) B (Wfree m c 5) (Sends m c 4 4 0) M R T ⊢ Q ⟨a, b⟩) :
    St m c (owed c 7 3 0) B (Wbusy m c 4) (Sends m c 4 3 0) M R T ⊢ run c (onBufs k0_part13 c v2 a b d e f) Q := by
  simp only [onBufs]
  rw [k0_part13_eq_skeleton]; unfold k0_part13_skel
  simp only [semSignalWord, semWaitWord, Prog.lift, Prog.bind_op, Prog.bind_ret, Prog.pure_eq_ret]
  refine st_send m (n := 4) (t := 3) (by omega) (by omega) (dev11 c) rfl (recv_at c) (by decide +kernel) (recv_sem c) ?_
  refine st_wait_w m (t := 4) (by omega) rfl (by decide +kernel) ?_
  exact run_ret (h _ _)

theorem part14 {v2 a b} {Q} (h : ∀ a, St m c (owed c 7 4 0) B (Wbusy m c 5) (Sends m c 5 4 0) M R T ⊢ Q ⟨maxTo m c 5, a⟩) :
    St m c (owed c 7 4 0) B (Wfree m c 5) (Sends m c 4 4 0) M R T ⊢ run c (onBufs k0_part14 c v2 (maxTo m c 4) a b) Q := by
  simp only [onBufs]
  rw [k0_part14_eq_skeleton]; unfold k0_part14_skel
  simp only [semSignalWord, semWaitWord, Prog.lift, Prog.bind_op, Prog.bind_ret, Prog.pure_eq_ret]
  refine st_issue m (t := 5) (by omega) (cols_at c 5) rfl (by decide +kernel) ?_
  refine st_load_x m ?_
  refine st_load_w m (t := 4) rfl ?_
  refine st_load_slot m (n := 4) (t := 4) (r := 0) (by omega) rfl (fun X => ?_)
  refine st_store_slot m (n := 4) (t := 4) (by omega) le_rfl rfl rfl ?_
  exact run_ret (h _)

theorem part15 {v2 a} {Q} (h : St m c (owed c 7 5 0) B W (Sends m c 5 5 0) M R T ⊢ Q ⟨⟩) :
    St m c (owed c 7 4 0) B W (Sends m c 5 4 0) M R T ⊢ run c (onBufs k0_part15 c v2 a) Q := by
  simp only [onBufs]
  rw [k0_part15_eq_skeleton]; unfold k0_part15_skel
  simp only [semSignalWord, semWaitWord, Prog.lift, Prog.bind_op, Prog.bind_ret, Prog.pure_eq_ret]
  refine st_send m (n := 5) (t := 4) (by omega) (by omega) (dev12 c) rfl (recv_at c) (by decide +kernel) (recv_sem c) ?_
  exact run_ret h

theorem part16 {v2} {Q} (h : St m c (owed c 7 5 0) B (Wbusy m c 6) S M R T
      ⊢ Q ⟨k0_pay19 (xval m c) (wval m c (peer c 5)), k0_pay20 (xval m c) (wval m c (peer c 5))⟩) :
    St m c (owed c 7 5 0) B (Wbusy m c 5) S M R T ⊢ run c (onBufs k0_part16 c v2) Q := by
  simp only [onBufs]
  rw [k0_part16_eq_skeleton]; unfold k0_part16_skel
  simp only [semSignalWord, semWaitWord, Prog.lift, Prog.bind_op, Prog.bind_ret, Prog.pure_eq_ret]
  refine st_wait_w m (t := 5) (by omega) rfl (by decide +kernel) ?_
  refine st_issue m (t := 6) (by omega) (cols_at c 6) rfl (by decide +kernel) ?_
  refine st_load_x m ?_
  refine st_load_w m (t := 5) rfl ?_
  exact run_ret h

theorem part17 {v2 v456 v525 v527} (hv : k0_pay22 v525 = V m c (peer c 5)) {Q}
    (h : ∀ a b, St m c (owed c 7 6 0) B W (Sends m c 6 6 0) M R T ⊢ Q ⟨k0_pay21 v456 v527, a, b⟩) :
    St m c (owed c 7 5 0) B W (Sends m c 5 5 0) M R T ⊢ run c (onBufs k0_part17 c v2 v456 v525 v527) Q := by
  simp only [onBufs]
  rw [k0_part17_eq_skeleton]; unfold k0_part17_skel
  simp only [semSignalWord, semWaitWord, Prog.lift, Prog.bind_op, Prog.bind_ret, Prog.pure_eq_ret]
  refine st_load_slot m (n := 5) (t := 5) (r := 0) (by omega) rfl (fun X => ?_)
  refine st_store_slot m (n := 5) (t := 5) (by omega) le_rfl rfl hv ?_
  refine st_send m (n := 6) (t := 5) (by omega) (by omega) (dev13 c) rfl (recv_at c) (by decide +kernel) (recv_sem c) ?_
  exact run_ret (h _ _)

theorem part18 {v2 a b} {Q} (h : St m c (owed c 7 6 0) B (Wbusy m c 7) S M R T ⊢ Q (k0_pay23 (xval m c))) :
    St m c (owed c 7 6 0) B (Wbusy m c 6) S M R T ⊢ run c (onBufs k0_part18 c v2 a b) Q := by
  simp only [onBufs]
  rw [k0_part18_eq_skeleton]; unfold k0_part18_skel
  simp only [semSignalWord, semWaitWord, Prog.lift, Prog.bind_op, Prog.bind_ret, Prog.pure_eq_ret]
  refine st_wait_w m (t := 6) (by omega) rfl (by decide +kernel) ?_
  refine st_issue m (t := 7) (by omega) (cols_at c 7) rfl (by decide +kernel) ?_
  refine st_load_x m ?_
  exact run_ret h

theorem part19 {v2 v530 v594} (hv : k0_pay26 v594 (wval m c (peer c 6)) = V m c (peer c 6)) {Q}
    (h : St m c (owed c 7 6 0) B (Wbusy m c 7) (Sends m c 7 6 0) M R T ⊢ Q (k0_pay25 v530 v594 (wval m c (peer c 6)))) :
    St m c (owed c 7 6 0) B (Wbusy m c 7) (Sends m c 6 6 0) M R T ⊢ run c (onBufs k0_part19 c v2 v530 v594) Q := by
  simp only [onBufs]
  rw [k0_part19_eq_skeleton]; unfold k0_part19_skel
  simp only [semSignalWord, semWaitWord, Prog.lift, Prog.bind_op, Prog.bind_ret, Prog.pure_eq_ret]
  refine st_load_w m (t := 6) rfl ?_
  refine st_load_slot m (n := 6) (t := 6) (r := 0) (by omega) rfl (fun X => ?_)
  refine st_store_slot m (n := 6) (t := 6) (by omega) le_rfl rfl hv ?_
  exact run_ret h

theorem part20 {v2} {Q} (h : St m c (owed c 7 7 0) B (Wfree m c 8) (Sends m c 7 7 0) M R T ⊢ Q ⟨amx m c, k0_pay29 (xval m c) (wval m c (peer c 7))⟩) :
    St m c (owed c 7 6 0) B (Wbusy m c 7) (Sends m c 7 6 0) M R T ⊢ run c (onBufs k0_part20 c v2 (maxTo m c 7)) Q := by
  simp only [onBufs]
  rw [k0_part20_eq_skeleton]; unfold k0_part20_skel
  simp only [semSignalWord, semWaitWord, Prog.lift, Prog.bind_op, Prog.bind_ret, Prog.pure_eq_ret]
  refine st_send m (n := 7) (t := 6) (by omega) (by omega) (dev14 c) rfl (recv_at c) (by decide +kernel) (recv_sem c) ?_
  refine st_wait_w m (t := 7) (by omega) rfl (by decide +kernel) ?_
  refine st_load_x m ?_
  refine st_load_w m (t := 7) rfl ?_
  exact run_ret h

theorem part21 {v2 v661} (hv : k0_pay30 v661 = V m c (peer c 7)) {Q} (h : ∀ a b d, St m c (owed c 7 7 1) B W (Sends m c 8 7 0) (Maxs m c 1 0) R T ⊢ Q ⟨a, b, d⟩) :
    St m c (owed c 7 7 0) B W (Sends m c 7 7 0) (iprop(Max0 c ∗ LandM c 0)) R T ⊢ run c (onBufs k0_part21 c v2 (amx m c) v661) Q := by
  simp only [onBufs]
  rw [k0_part21_eq_skeleton]; unfold k0_part21_skel
  simp only [semSignalWord, semWaitWord, Prog.lift, Prog.bind_op, Prog.bind_ret, Prog.pure_eq_ret]
  refine st_load_slot m (n := 7) (t := 7) (r := 0) (by omega) rfl (fun X => ?_)
  refine st_store_slot m (n := 7) (t := 7) (by omega) le_rfl rfl hv ?_
  refine st_load_max m rfl (fun X => ?_)
  refine st_store_max m rfl rfl ?_
  refine st_send_max m (t := 0) (by omega) (dev15 c) rfl (row_at c) (by decide +kernel) (row_sem c) ?_
  exact run_ret (h _ _ _)

theorem part22 {v2 a b d} {Q} (h : St m c (owed c 7 7 2) B W S (Maxs m c 2 0) R T ⊢ Q ⟨⟩) :
    St m c (owed c 7 7 1) B W S (Maxs m c 1 0) R T ⊢ run c (onBufs k0_part22 c v2 a b d) Q := by
  simp only [onBufs]
  rw [k0_part22_eq_skeleton]; unfold k0_part22_skel
  simp only [semSignalWord, semWaitWord, Prog.lift, Prog.bind_op, Prog.bind_ret, Prog.pure_eq_ret]
  refine st_send_max m (t := 1) (by omega) (dev16 c) rfl (row_at c) (by decide +kernel) (row_sem c) ?_
  exact run_ret h

theorem part23 {v2} {Q} (h : ∀ a, St m c (owed c 7 7 4) B W S (Maxs m c 4 0) R T ⊢ Q a) :
    St m c (owed c 7 7 2) B W S (Maxs m c 2 0) R T ⊢ run c (onBufs k0_part23 c v2) Q := by
  simp only [onBufs]
  rw [k0_part23_eq_skeleton]; unfold k0_part23_skel
  simp only [semSignalWord, semWaitWord, Prog.lift, Prog.bind_op, Prog.bind_ret, Prog.pure_eq_ret]
  refine st_send_max m (t := 2) (by omega) (dev17 c) rfl (row_at c) (by decide +kernel) (row_sem c) ?_
  refine st_send_max m (t := 3) (by omega) (dev18 c) rfl (row_at c) (by decide +kernel) (row_sem c) ?_
  exact run_ret (h _)

theorem part24 {v2 a} {Q} (h : ∀ a b d, St m c (owed c 7 7 6) B W S (Maxs m c 6 0) R T ⊢ Q ⟨a, b, d⟩) :
    St m c (owed c 7 7 4) B W S (Maxs m c 4 0) R T ⊢ run c (onBufs k0_part24 c v2 a) Q := by
  simp only [onBufs]
  rw [k0_part24_eq_skeleton]; unfold k0_part24_skel
  simp only [semSignalWord, semWaitWord, Prog.lift, Prog.bind_op, Prog.bind_ret, Prog.pure_eq_ret]
  refine st_send_max m (t := 4) (by omega) (dev19 c) rfl (row_at c) (by decide +kernel) (row_sem c) ?_
  refine st_send_max m (t := 5) (by omega) (dev20 c) rfl (row_at c) (by decide +kernel) (row_sem c) ?_
  exact run_ret (h _ _ _)

/-! ## What is decided by the device's own number -/

theorem is_me (c : Dev nD) (s : Fin 8) : Scalar.cmpi .eq (me c) (BitVec.ofNat 32 s.val) = 1#1 ↔ dv s.val = c := by revert c s; decide +kernel
theorem not_me (c : Dev nD) (s : Fin 8) :
    Scalar.cmpi .ne (Scalar.extui (Scalar.cmpi .ne (me c) (BitVec.ofNat 32 s.val)) : BitVec 32) 0#32 = 1#1 ↔ dv s.val ≠ c := by revert c s; decide +kernel

/-- The maximum of sender `s`: what was received from it, or the device's own. -/
theorem pick {s : ℕ} {w : BitVec 1} (hw : w = 1#1 ↔ dv s = c) {X : Vec F S1x1 .f32} (hX : dv s ≠ c → ∀ j, X j = amx m (dv s)) :
    Scalar.select w (amx m c) (extractAt ![0, 0] X inpos_S1x1_p0_0) = amx m (dv s) := by
  unfold Scalar.select
  by_cases h : dv s = c
  · exact (if_pos (hw.mpr h)).trans (by rw [h])
  · exact (if_neg (fun e => h (hw.mp e))).trans (hX h _)

theorem fold5 {X₀ X₁ X₂ X₃ X₄ : Vec F S1x1 .f32} (h₀ : dv 0 ≠ c → ∀ j, X₀ j = amx m (dv 0)) (h₁ : dv 1 ≠ c → ∀ j, X₁ j = amx m (dv 1))
    (h₂ : dv 2 ≠ c → ∀ j, X₂ j = amx m (dv 2)) (h₃ : dv 3 ≠ c → ∀ j, X₃ j = amx m (dv 3)) (h₄ : dv 4 ≠ c → ∀ j, X₄ j = amx m (dv 4)) :
    k0_pay32 (me c) (amx m c) X₀ X₁ X₂ X₃ X₄ = gmaxTo m c 5 := by
  unfold k0_pay32
  have e₀ := pick m (w := Scalar.cmpi .eq (me c) 0#32) (is_me c 0) h₀
  have e₁ := pick m (w := Scalar.cmpi .eq (me c) 1#32) (is_me c 1) h₁
  have e₂ := pick m (w := Scalar.cmpi .eq (me c) 2#32) (is_me c 2) h₂
  have e₃ := pick m (w := Scalar.cmpi .eq (me c) 3#32) (is_me c 3) h₃
  have e₄ := pick m (w := Scalar.cmpi .eq (me c) 4#32) (is_me c 4) h₄
  simp only [e₀, e₁, e₂, e₃, e₄]
  rfl

theorem fold8 {w : BitVec 1} (hw : w = 1#1 ↔ dv 5 = c) {X₅ X₆ X₇ : Vec F S1x1 .f32} (h₅ : dv 5 ≠ c → ∀ j, X₅ j = amx m (dv 5))
    (h₆ : dv 6 ≠ c → ∀ j, X₆ j = amx m (dv 6)) (h₇ : dv 7 ≠ c → ∀ j, X₇ j = amx m (dv 7)) :
    k0_pay33 (me c) (amx m c) (gmaxTo m c 5) w X₅ X₆ X₇ = gmaxTo m c 8 := by
  unfold k0_pay33
  have e₅ := pick m hw h₅
  have e₆ := pick m (w := Scalar.cmpi .eq (me c) 6#32) (is_me c 6) h₆
  have e₇ := pick m (w := Scalar.cmpi .eq (me c) 7#32) (is_me c 7) h₇
  simp only [e₅, e₆, e₇]
  rfl

theorem part25 {a b d} {Q} (h : St m c (owed c 7 7 7) B W S (Maxs m c 7 0) (Recv m c 5) T ⊢ Q ⟨⟩) :
    St m c (owed c 7 7 6) B W S (Maxs m c 6 0) (Recv m c 0) T ⊢ run c (onBufs k0_part25 c (me c) a b d) Q := by
  simp only [onBufs]
  rw [k0_part25_eq_skeleton]; unfold k0_part25_skel
  simp only [semSignalWord, semWaitWord, Prog.lift, Prog.bind_op, Prog.bind_ret, Prog.pure_eq_ret]
  refine st_send_max m (t := 6) (by omega) (dev21 c) rfl (row_at c) (by decide +kernel) (row_sem c) ?_
  refine st_recv m (s := 0) (by omega) (not_me c 0) rfl (by decide +kernel) rfl (by decide +kernel) ?_
  refine st_recv m (s := 1) (by omega) (not_me c 1) rfl (by decide +kernel) rfl (by decide +kernel) ?_
  refine st_recv m (s := 2) (by omega) (not_me c 2) rfl (by decide +kernel) rfl (by decide +kernel) ?_
  refine st_recv m (s := 3) (by omega) (not_me c 3) rfl (by decide +kernel) rfl (by decide +kernel) ?_
  refine st_recv m (s := 4) (by omega) (not_me c 4) rfl (by decide +kernel) rfl (by decide +kernel) ?_
  exact run_ret h

theorem part26 {Q} (h : ∀ w : BitVec 1, (w = 1#1 ↔ dv 5 = c) → (St m c (owed c 7 7 7) B W S M (Recv m c 8) T ⊢ Q ⟨gmaxTo m c 5, w⟩)) :
    St m c (owed c 7 7 7) B W S M (Recv m c 5) T ⊢ run c (onBufs k0_part26 (me c) (amx m c)) Q := by
  simp only [onBufs]
  rw [k0_part26_eq_skeleton]; unfold k0_part26_skel
  simp only [semSignalWord, semWaitWord, Prog.lift, Prog.bind_op, Prog.bind_ret, Prog.pure_eq_ret]
  refine st_recv m (s := 5) (by omega) (not_me c 5) rfl (by decide +kernel) rfl (by decide +kernel) ?_
  refine st_recv m (s := 6) (by omega) (not_me c 6) rfl (by decide +kernel) rfl (by decide +kernel) ?_
  refine st_recv m (s := 7) (by omega) (not_me c 7) rfl (by decide +kernel) rfl (by decide +kernel) ?_
  refine st_load_row m (s := 0) (by omega) rfl (fun X₀ h₀ => ?_)
  refine st_load_row m (s := 1) (by omega) rfl (fun X₁ h₁ => ?_)
  refine st_load_row m (s := 2) (by omega) rfl (fun X₂ h₂ => ?_)
  refine st_load_row m (s := 3) (by omega) rfl (fun X₃ h₃ => ?_)
  refine st_load_row m (s := 4) (by omega) rfl (fun X₄ h₄ => ?_)
  refine run_ret ?_
  rw [fold5 m h₀ h₁ h₂ h₃ h₄]
  exact h _ (is_me c 5)

/-- The rounding of a chunk, once the fold over the received maxima is known. -/
theorem round_own {g : F .f32} {w : BitVec 1} {X₅ X₆ X₇ : Vec F S1x1 .f32} (hg : k0_pay33 (me c) (amx m c) g w X₅ X₆ X₇ = gmaxTo m c 8) (X : Vec F S1x512x256 .bf16) :
    k0_pay36 (me c) (amx m c) g w X₅ X₆ X₇ X = k0_pay38 (inv m c) (scale m c) X := by
  unfold k0_pay36 k0_pay38 k0_pay34 k0_pay35; rw [hg]; rfl

theorem part27 {w} (hw : w = 1#1 ↔ dv 5 = c) {r : ℕ} {Q}
    (h : ∀ w : BitVec 1, (w = 1#1 ↔ dv 1 ≠ c) → (St m c O B W (Sends m c 8 7 r) M (Recv m c 8) (Out m c 1) ⊢ Q ⟨inv m c, scale m c, w⟩)) :
    St m c O B W (Sends m c 8 7 r) M (Recv m c 8) (Out0 c) ⊢ run c (onBufs k0_part27 c (me c) (amx m c) (gmaxTo m c 5) w) Q := by
  simp only [onBufs]
  rw [k0_part27_eq_skeleton]; unfold k0_part27_skel
  simp only [semSignalWord, semWaitWord, Prog.lift, Prog.bind_op, Prog.bind_ret, Prog.pure_eq_ret]
  refine st_load_row m (s := 5) (by omega) rfl (fun X₅ h₅ => ?_)
  refine st_load_row m (s := 6) (by omega) rfl (fun X₆ h₆ => ?_)
  refine st_load_row m (s := 7) (by omega) rfl (fun X₇ h₇ => ?_)
  have hg := fold8 m hw h₅ h₆ h₇
  refine st_load_own m rfl ?_
  refine st_load_out0 m (out_at c) (fun _ => ?_)
  refine st_store_out0 m (out_at c) (round_own m hg _) ?_
  refine st_out m (s := 0) (by omega) (not_me c 0) rfl rfl (round_own m hg _) ?_
  refine run_ret ?_
  have hi : k0_pay34 (me c) (amx m c) (gmaxTo m c 5) w X₅ X₆ X₇ = inv m c := by unfold k0_pay34; rw [hg]; rfl
  have hs : k0_pay35 (me c) (amx m c) (gmaxTo m c 5) w X₅ X₆ X₇ = scale m c := by unfold k0_pay35; rw [hg]; rfl
  rw [hi, hs]
  exact h _ (not_me c 1)

theorem part28 {w : BitVec 1} (hw : w = 1#1 ↔ dv 1 ≠ c) {Q} (h : St m c (owed c 7 7 7) B W (Sends m c 8 7 1) M (Recv m c 8) (Out m c 8) ⊢ Q ⟨⟩) :
    St m c (owed c 7 7 7) B W (Sends m c 8 7 0) M (Recv m c 8) (Out m c 1) ⊢ run c (onBufs k0_part28 (me c) (inv m c) (scale m c) w) Q := by
  simp only [onBufs]
  rw [k0_part28_eq_skeleton]; unfold k0_part28_skel
  simp only [semSignalWord, semWaitWord, Prog.lift, Prog.bind_op, Prog.bind_ret, Prog.pure_eq_ret]
  refine st_out m (s := 1) (by omega) hw rfl rfl rfl ?_
  refine st_out m (s := 2) (by omega) (not_me c 2) rfl rfl rfl ?_
  refine st_out m (s := 3) (by omega) (not_me c 3) rfl rfl rfl ?_
  refine st_out m (s := 4) (by omega) (not_me c 4) rfl rfl rfl ?_
  refine st_out m (s := 5) (by omega) (not_me c 5) rfl rfl rfl ?_
  refine st_out m (s := 6) (by omega) (not_me c 6) rfl rfl rfl ?_
  refine st_out m (s := 7) (by omega) (not_me c 7) rfl rfl rfl ?_
  refine st_drain m (r := 0) (by omega) rfl (by decide +kernel) ?_
  exact run_ret h

theorem part29 {Q} (h : St m c (owed c 7 7 7) B W (Sends m c 8 7 3) (Maxs m c 7 2) R T ⊢ Q ⟨⟩) :
    St m c (owed c 7 7 7) B W (Sends m c 8 7 1) (Maxs m c 7 0) R T ⊢ run c (onBufs k0_part29) Q := by
  simp only [onBufs]
  rw [k0_part29_eq_skeleton]; unfold k0_part29_skel
  simp only [semSignalWord, semWaitWord, Prog.lift, Prog.bind_op, Prog.bind_ret, Prog.pure_eq_ret]
  refine st_drain_max m (r := 0) (by omega) rfl (by decide +kernel) ?_
  refine st_drain m (r := 1) (by omega) rfl (by decide +kernel) ?_
  refine st_drain_max m (r := 1) (by omega) rfl (by decide +kernel) ?_
  refine st_drain m (r := 2) (by omega) rfl (by decide +kernel) ?_
  exact run_ret h

theorem part30 {Q} (h : St m c (owed c 7 7 7) B W (Sends m c 8 7 4) (Maxs m c 7 4) R T ⊢ Q ⟨⟩) :
    St m c (owed c 7 7 7) B W (Sends m c 8 7 3) (Maxs m c 7 2) R T ⊢ run c (onBufs k0_part30) Q := by
  simp only [onBufs]
  rw [k0_part30_eq_skeleton]; unfold k0_part30_skel
  simp only [semSignalWord, semWaitWord, Prog.lift, Prog.bind_op, Prog.bind_ret, Prog.pure_eq_ret]
  refine st_drain_max m (r := 2) (by omega) rfl (by decide +kernel) ?_
  refine st_drain m (r := 3) (by omega) rfl (by decide +kernel) ?_
  refine st_drain_max m (r := 3) (by omega) rfl (by decide +kernel) ?_
  exact run_ret h

theorem part31 {Q} (h : St m c (owed c 7 7 7) B W (Sends m c 8 7 6) (Maxs m c 7 6) R T ⊢ Q ⟨⟩) :
    St m c (owed c 7 7 7) B W (Sends m c 8 7 4) (Maxs m c 7 4) R T ⊢ run c (onBufs k0_part31) Q := by
  simp only [onBufs]
  rw [k0_part31_eq_skeleton]; unfold k0_part31_skel
  simp only [semSignalWord, semWaitWord, Prog.lift, Prog.bind_op, Prog.bind_ret, Prog.pure_eq_ret]
  refine st_drain m (r := 4) (by omega) rfl (by decide +kernel) ?_
  refine st_drain_max m (r := 4) (by omega) rfl (by decide +kernel) ?_
  refine st_drain m (r := 5) (by omega) rfl (by decide +kernel) ?_
  refine st_drain_max m (r := 5) (by omega) rfl (by decide +kernel) ?_
  exact run_ret h

set_option maxHeartbeats 4000000 in
/-- The whole body: from what a device holds on entry to what it holds when nothing is left to do. -/
theorem body {Q}
    (h : St m c (owed c 7 7 7) (semVal (barCell c) 0) (Wfree m c 8) (Sends m c 8 7 7) (Maxs m c 7 7) (Recv m c 8) (Out m c 8) ⊢ Q ⟨⟩) :
    St m c (owed c 0 0 0) (Bar c 0) (Wfree m c 0) (Snd m c 0 0 0) (Max0 c) (Recv m c 0) (Out0 c) ⊢ run c (onBufs cc0_body) Q := by
  simp only [onBufs]
  rw [cc0_body_eq_skeleton]; unfold cc0_body_skel
  refine run_bind (part1 m fun _ _ _ => ?_)
  refine run_bind (part2 m fun _ _ _ => ?_)
  refine run_bind (part3 m fun _ _ => ?_)
  refine run_bind (part4 m ?_)
  refine run_bind (part5 m ?_)
  refine run_bind (part6 m rfl fun _ _ _ _ _ => ?_)
  refine run_bind (part7 m ?_)
  refine run_bind (part8 m rfl fun _ => ?_)
  refine run_bind (part9 m ?_)
  refine run_bind (part10 m ?_)
  refine run_bind (part11 m fun _ _ _ _ _ => ?_)
  refine run_bind (part12 m fun _ _ _ _ _ => ?_)
  refine run_bind (part13 m fun _ _ => ?_)
  refine run_bind (part14 m fun _ => ?_)
  refine run_bind (part15 m ?_)
  refine run_bind (part16 m ?_)
  refine run_bind (part17 m rfl fun _ _ => ?_)
  refine run_bind (part18 m ?_)
  refine run_bind (part19 m rfl ?_)
  refine run_bind (part20 m ?_)
  refine run_bind (part21 m rfl fun _ _ _ => ?_)
  refine run_bind (part22 m ?_)
  refine run_bind (part23 m fun _ => ?_)
  refine run_bind (part24 m fun _ _ _ => ?_)
  refine run_bind (part25 m ?_)
  refine run_bind (part26 m fun _ h₅ => ?_)
  refine run_bind (part27 m h₅ fun _ h₁ => ?_)
  refine run_bind (part28 m h₁ ?_)
  refine run_bind (part29 m ?_)
  refine run_bind (part30 m ?_)
  refine run_bind (part31 m ?_)
  simp only [semSignalWord, semWaitWord, Prog.lift, Prog.bind_op, Prog.bind_ret, Prog.pure_eq_ret]
  refine st_drain m (r := 6) (by omega) rfl (by decide +kernel) ?_
  refine st_drain_max m (r := 6) (by omega) rfl (by decide +kernel) ?_
  exact run_ret h

end

end Cert.Exchange
-- ==== Proof.Deal.lean ====
/-
The launch: the duty tokens as minted and as dealt to the devices that pay them, the semaphore cells of a device listed,
the global step that opens every cell's invariant, and the credits the launch leaves with each device.
-/
module

public import proofs.«01_k».proof.Proof.State

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Runs of numbers, cut and shifted -/

theorem run_append {a b d : ℕ} (h₁ : a ≤ b) (h₂ : b ≤ d) (Φ : ℕ → sProp 𝕄) :
    bigSep (Finset.Ico a d) Φ = iprop(bigSep (Finset.Ico a b) Φ ∗ bigSep (Finset.Ico b d) Φ) := by
  rw [← Finset.Ico_union_Ico_eq_Ico h₁ h₂]
  exact BI.bigSep_union (Finset.Ico_disjoint_Ico_consecutive a b d)
theorem run_shift (k a b : ℕ) (Φ : ℕ → sProp 𝕄) :
    bigSep (Finset.Ico (k + a) (k + b)) Φ = bigSep (Finset.Ico a b) (fun n => Φ (k + n)) := by
  rw [← Finset.map_add_left_Ico, bigSep_map]; rfl

/-- A family over the numbers below eight is one over the devices. -/
theorem over_devices (Φ : ℕ → sProp 𝕄) : bigSep (Finset.Ico 0 8) Φ = bigSep (Finset.univ : Finset (Dev nD)) (fun d => Φ d.val) :=
  (bigSep_numbers 8 Φ).symm

theorem take_one {I : Type} [DecidableEq I] {s : Finset I} {i : I} (h : i ∈ s) (Φ : I → sProp 𝕄) :
    bigSep s Φ = iprop(Φ i ∗ bigSep (s.erase i) Φ) := BI.bigSep_erase h

/-! ## A device's cells -/

/-- `P` of each of a device's DMA cells: the two of the staging buffer and the four rows of eight. -/
def Cells (P : GSem nD τ sig → sProp 𝕄) (c : Dev nD) : sProp 𝕄 :=
  iprop(P (wCell c 0) ∗ P (wCell c 1) ∗ (bigSep (Finset.Ico 0 8) fun k => P (sndCell c k)) ∗ (bigSep (Finset.Ico 0 8) fun k => P (rcvCell c k))
    ∗ (bigSep (Finset.Ico 0 8) fun k => P (msCell c k)) ∗ bigSep (Finset.Ico 0 8) fun k => P (mrCell c k))

theorem eight (b : ℕ) (P : GSem nD τ sig → sProp 𝕄) (c : Dev nD) :
    bigSep (Finset.Ico b (b + 8)) (fun q => P (dcell c q)) = bigSep (Finset.Ico 0 8) (fun k => P (dcell c (b + k % 8))) :=
  (run_shift b 0 8 _).trans (bigSep_congr fun k hk => by rw [Nat.mod_eq_of_lt (Finset.mem_Ico.mp hk).2])

theorem cells_numbered (P : GSem nD τ sig → sProp 𝕄) (c : Dev nD) :
    bigSep (Finset.Ico 2 36) (fun q => P (dcell c q)) = Cells P c := by
  rw [bigSep_Ico_succ_bot (by omega), bigSep_Ico_succ_bot (by omega), run_append (a := 2 + 1 + 1) (b := 12) (by omega) (by omega),
    run_append (a := 12) (b := 20) (by omega) (by omega), run_append (a := 20) (b := 28) (by omega) (by omega)]
  unfold Cells
  rw [eight 4 P c, eight 12 P c, eight 20 P c, eight 28 P c]

theorem cells_all (P : GSem nD τ sig → sProp 𝕄) (c : Dev nD) :
    bigSep (Finset.univ : Finset (Fin 35)) (fun i => P (kcell (c, i))) = iprop(P (barCell c) ∗ Cells P c) := by
  have h := bigSep_numbers 35 (fun n => P ((c : Thread nD τ), if n = 0 then .reg barS else .dma (dsem (n + 1))))
  refine Eq.trans h ?_
  rw [bigSep_Ico_succ_bot (by omega), ← cells_numbered, run_shift 1 1 35 (fun q => P (dcell c q))]
  rw [bigSep_congr (s := Finset.Ico (0 + 1) 35) (Ψ := fun n => P (dcell c (1 + n))) fun n hn => by
    rw [if_neg (by have := Finset.mem_Ico.mp hn; omega), Nat.add_comm n 1]]
  rfl

/-- The kernel's own semaphores, numbered from the staging buffer's on. -/
abbrev osem (i : Fin 34) : SemLoc sig := .dma (dsem (i.val + 2))
theorem ownSemFacts : Pipeline.OwnSemFacts cfg0.spec osem := by decide +kernel

theorem ownSems0_eq (c : Dev nD) : (Pipeline.ownSems0 (Ix := Unit) (Name := ℕ) (U := UU) (Lvl := ℕ) (Val := Elt F) (τ := τ) osem c : sProp 𝕄)
    = Cells (fun g => semVal g 0) c := by
  unfold Pipeline.ownSems0
  refine Eq.trans (bigSep_numbers 34 (fun n => semVal ((c : Thread nD τ), .dma (dsem (n + 2))) 0)) ?_
  rw [← cells_numbered, run_shift 2 0 34]
  exact bigSep_congr fun n _ => by rw [Nat.add_comm n 2]

/-- The barrier semaphore is the one no launch scopes. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem csem_injective : Function.Injective csem := by decide +kernel
theorem kcell_injective : Function.Injective (kcell : Dev nD × Fin 35 → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-! ## The duty tokens -/

/-- The tokens of a device's cells: of the barrier cell one for each device; of each half of the staging buffer one for each
    of its four rounds; of the other cells one. -/
def tokS (f : Fin 6) (k : Fin 8) : SemLoc sig × ℕ × Dev nD :=
  match f with
  | 0 => (.reg barS, 0, dv k.val)
  | 1 => (.dma (dsem (2 + k.val % 2)), k.val / 2, 0)
  | 2 => (.dma (dsem (4 + k.val % 8)), 0, 0)
  | 3 => (.dma (dsem (12 + k.val % 8)), 0, 0)
  | 4 => (.dma (dsem (20 + k.val % 8)), 0, 0)
  | 5 => (.dma (dsem (28 + k.val % 8)), 0, 0)
theorem tokS_injective : ∀ f f' : Fin 6, ∀ k k' : Fin 8, tokS f k = tokS f' k' → f = f' ∧ k = k' := by decide +kernel

abbrev tokOf (x : Dev nD × Fin 6 × Fin 8) : GSem nD τ sig × ℕ × Dev nD := (((x.1 : Thread nD τ), (tokS x.2.1 x.2.2).1), (tokS x.2.1 x.2.2).2)
theorem tokOf_injective : Function.Injective tokOf := by
  rintro ⟨c, f, k⟩ ⟨c', f', k'⟩ h
  have h1 : c = c' := congrArg (fun x : GSem nD τ sig × ℕ × Dev nD => x.1.1.1) h
  have h2 : tokS f k = tokS f' k' := Prod.ext (congrArg (fun x : GSem nD τ sig × ℕ × Dev nD => x.1.2) h) (congrArg (fun x : GSem nD τ sig × ℕ × Dev nD => x.2) h)
  obtain ⟨h3, h4⟩ := tokS_injective f f' k k' h2
  rw [h1, h3, h4]
def allToks : Finset (GSem nD τ sig × ℕ × Dev nD) := Finset.univ.map ⟨tokOf, tokOf_injective⟩

/-- The tokens of device `c`'s own cells. -/
def toks (c : Dev nD) : sProp 𝕄 :=
  iprop((bigSep (Finset.Ico 0 8) fun k => dutyTok ER (barCell c) 0 (dv k)) ∗ (bigSep (Finset.Ico 0 8) fun k => dutyTok ER (wCell c k) (k / 2) (0 : Dev nD))
    ∗ (bigSep (Finset.Ico 0 8) fun k => dutyTok ER (sndCell c k) 0 (0 : Dev nD)) ∗ (bigSep (Finset.Ico 0 8) fun k => dutyTok ER (rcvCell c k) 0 (0 : Dev nD))
    ∗ (bigSep (Finset.Ico 0 8) fun k => dutyTok ER (msCell c k) 0 (0 : Dev nD)) ∗ (bigSep (Finset.Ico 0 8) fun k => dutyTok ER (mrCell c k) 0 (0 : Dev nD)))

/-- The tokens of the duties device `c` pays. -/
def payToks (c : Dev nD) : sProp 𝕄 :=
  iprop((bigSep (Finset.Ico 0 7) fun k => dutyTok ER (barCell (peer c k)) 0 c) ∗ (bigSep (Finset.Ico 0 8) fun k => dutyTok ER (wCell c k) (k / 2) (0 : Dev nD))
    ∗ (bigSep (Finset.Ico 0 7) fun k => dutyTok ER (sndCell c k) 0 (0 : Dev nD)) ∗ (bigSep (Finset.Ico 0 7) fun k => dutyTok ER (rcvCell (peer c k) c.val) 0 (0 : Dev nD))
    ∗ (bigSep (Finset.Ico 0 7) fun k => dutyTok ER (msCell c k) 0 (0 : Dev nD)) ∗ (bigSep (Finset.Ico 0 7) fun k => dutyTok ER (mrCell (peer c k) c.val) 0 (0 : Dev nD)))

/-- What each device holds for each other, dealt to the other. -/
theorem deal (Φ : Dev nD → Dev nD → sProp 𝕄) :
    (bigSep Finset.univ fun c => bigSep Finset.univ fun d => Φ c d) ⊢ bigSep Finset.univ fun c => bigSep (Finset.Ico 0 7) fun k => Φ (peer c k) c := by
  rw [BI.bigSep_univ_comm]
  refine bigSep_mono fun d _ => ?_
  rw [← bigSep_others d (fun c => Φ c d)]
  exact BI.bigSep_subset (Finset.erase_subset _ _)
theorem deal_number (Φ : Dev nD → ℕ → sProp 𝕄) :
    (bigSep Finset.univ fun c => bigSep (Finset.Ico 0 8) fun k => Φ c k) ⊢ bigSep Finset.univ fun c => bigSep (Finset.Ico 0 7) fun k => Φ (peer c k) c.val := by
  rw [bigSep_congr (s := (Finset.univ : Finset (Dev nD))) fun c _ => over_devices (Φ c)]
  exact deal (fun c d => Φ c d.val)
theorem deal_device (Φ : Dev nD → Dev nD → sProp 𝕄) :
    (bigSep Finset.univ fun c => bigSep (Finset.Ico 0 8) fun k => Φ c (dv k)) ⊢ bigSep Finset.univ fun c => bigSep (Finset.Ico 0 7) fun k => Φ (peer c k) c := by
  rw [bigSep_congr (s := (Finset.univ : Finset (Dev nD))) fun c _ =>
    (over_devices (fun k => Φ c (dv k))).trans (bigSep_congr fun d _ => by rw [dv_val])]
  exact deal Φ
theorem seven_of_eight (Φ : Dev nD → ℕ → sProp 𝕄) :
    (bigSep Finset.univ fun c => bigSep (Finset.Ico 0 8) fun k => Φ c k) ⊢ bigSep Finset.univ fun c => bigSep (Finset.Ico 0 7) fun k => Φ c k :=
  bigSep_mono fun c _ => BI.bigSep_subset (Finset.Ico_subset_Ico_right (by omega))

theorem toks_dealt : (bigSep Finset.univ fun c : Dev nD => (toks c : sProp 𝕄)) ⊢ bigSep Finset.univ fun c : Dev nD => payToks c := by
  unfold toks payToks
  simp only [bigSep_sep']
  iintro ⟨H1, H2, H3, H4, H5, H6⟩
  isplitl [H1]; · iapply (deal_device (F := F) fun c d => dutyTok ER (barCell c) 0 d); iexact H1
  isplitl [H2]; · iexact H2
  isplitl [H3]; · iapply (seven_of_eight (F := F) fun c k => dutyTok ER (sndCell c k) 0 (0 : Dev nD)); iexact H3
  isplitl [H4]; · iapply (deal_number (F := F) fun c k => dutyTok ER (rcvCell c k) 0 (0 : Dev nD)); iexact H4
  isplitl [H5]; · iapply (seven_of_eight (F := F) fun c k => dutyTok ER (msCell c k) 0 (0 : Dev nD)); iexact H5
  iapply (deal_number (F := F) fun c k => dutyTok ER (mrCell c k) 0 (0 : Dev nD)); iexact H6

/-! ## The launch element and the global step -/

def u₀ : UU :=
  (initOf (Pipeline.cells cfgs cellOf_inj) (Pipeline.launchToks cfgs cellOf_inj), initOf allCells allToks)

/-- What the launch element deals device `c`. -/
def G (c : Dev nD) : sProp 𝕄 :=
  iprop((bigSep Finset.univ fun k : Fin 35 => roundState ER (Rd m) (kcell (c, k)) 0)
    ∗ ((bigSep Finset.univ fun k : Fin 35 => atPos ER (kcell (c, k)) 0 ∅ 0) ∗ bigSep Finset.univ fun k : Fin 35 => reached ER (kcell (c, k)) 0) ∗ toks c)

/-- What every device may use again and again: the cells' invariants and first rounds. -/
def records : sProp 𝕄 :=
  iprop((bigSep Finset.univ fun ck : Dev nD × Fin 35 => Known m (kcell ck)) ∗ bigSep Finset.univ fun ck : Dev nD × Fin 35 => reached ER (kcell ck) 0)
instance records_persistent : BI.Persistent (records (F := F) m) := by unfold records; infer_instance

/-- What the global step makes of it: the records, the device's positions, the tokens of the duties it pays. -/
def linear (c : Dev nD) : sProp 𝕄 := iprop((atPos ER (barCell c) 0 ∅ 0 ∗ Cells (fun g => atPos ER g 0 ∅ 0) c) ∗ payToks c)
def G' (c : Dev nD) : sProp 𝕄 := iprop(records m ∗ linear c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 35 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    rw [bigSep_univ_prod, bigSep_univ_eq_bigSepL [(0 : Fin 6), 1, 2, 3, 4, 5] (by decide) (by decide)]
    unfold toks
    simp only [← bigSep_numbers 8]
    rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 35 => Known m (kcell (c, k)))
          ∗ ((bigSep Finset.univ fun k : Fin 35 => atPos ER (kcell (c, k)) 0 ∅ 0) ∗ bigSep Finset.univ fun k : Fin 35 => reached ER (kcell (c, k)) 0) ∗ toks c) := by
  unfold G
  rw [ownSems0_eq, unscopedSems0_eq]
  iintro ⟨Hos, Hus, Hst, Hat, Htok⟩
  ihave Hv := (Entails.of_eq (cells_all (F := F) (fun g => semVal g 0) c).symm) $$ [Hos Hus]
  · isplitl [Hus] <;> iassumption
  imod (show iprop((bigSep Finset.univ fun k : Fin 35 => semVal (kcell (c, k)) 0) ∗ bigSep Finset.univ fun k : Fin 35 => roundState ER (Rd m) (kcell (c, k)) 0)
      ⊢ (|={Set.univ}=> bigSep Finset.univ fun k : Fin 35 => Known m (kcell (c, k)) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem with_records {I : Type} [DecidableEq I] {S : Finset I} {R : sProp 𝕄} [BI.Persistent R] (Φ : I → sProp 𝕄) :
    iprop(R ∗ bigSep S Φ) ⊢ bigSep S fun i => iprop(R ∗ Φ i) :=
  (sep_mono_left (BI.bigSep_of_persistent S R)).trans (join S (fun _ => R) Φ)

theorem regroup :
    (bigSep Finset.univ fun c : Dev nD => iprop((bigSep Finset.univ fun k : Fin 35 => Known m (kcell (c, k)))
          ∗ ((bigSep Finset.univ fun k : Fin 35 => atPos ER (kcell (c, k)) 0 ∅ 0) ∗ bigSep Finset.univ fun k : Fin 35 => reached ER (kcell (c, k)) 0) ∗ toks c) : sProp 𝕄)
      ⊢ bigSep Finset.univ (G' m) := by
  rw [bigSep_sep', bigSep_sep', bigSep_sep', ← bigSep_univ_prod (fun ck : Dev nD × Fin 35 => (Known m (kcell ck) : sProp 𝕄)),
    ← bigSep_univ_prod (fun ck : Dev nD × Fin 35 => (reached ER (kcell ck) 0 : sProp 𝕄))]
  iintro ⟨#HI, ⟨Hat, #HR⟩, Htok⟩
  ihave Htk := (toks_dealt (F := F)) $$ Htok
  iapply (with_records (R := records m) (linear (F := F)))
  isplitr
  · unfold records; isplitr; · iexact HI
    iexact HR
  · ihave Hat' := (Entails.of_eq (bigSep_congr (s := (Finset.univ : Finset (Dev nD))) fun c _ => cells_all (F := F) (fun g => atPos ER g 0 ∅ 0) c)) $$ Hat
    unfold linear
    iapply (join (F := F) Finset.univ (fun c : Dev nD => iprop(atPos ER (barCell c) 0 ∅ 0 ∗ Cells (fun g => atPos ER g 0 ∅ 0) c)) payToks)
    isplitl [Hat']; · iexact Hat'
    iexact Htk

/-- The own and the unscoped semaphores of every device at once become the cells' invariants. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credits -/

abbrev O₀ (c : Dev nD) : CellTallies nD τ sig Unit := owed c 0 0 0

theorem sum_others (c : Dev nD) (f : Dev nD → ℕ) : ∑ k ∈ Finset.Ico 0 7, f (peer c k) = ∑ d ∈ Finset.univ.erase c, f d := by
  rw [← peers_eq, Finset.sum_map, ← Finset.range_eq_Ico, Finset.sum_range]; rfl

theorem cell_eq_iff {a b : Dev nD} {s s' : SemLoc sig} : (((a : Thread nD τ), s) : GSem nD τ sig) = ((b : Thread nD τ), s') ↔ a = b ∧ s = s' :=
  ⟨fun h => ⟨congrArg (fun g : GSem nD τ sig => g.1.1) h, congrArg Prod.snd h⟩, fun ⟨h, h'⟩ => by rw [h, h']⟩

/-- What is owed to the cell on semaphore `s` of device `c`, when device `d` owes `n` on semaphore `s'` of every other. -/
theorem owed_on (c d : Dev nD) (s s' : SemLoc sig) (n : ℕ) :
    (∑ k ∈ Finset.Ico 0 7, tallyAt ((peer d k : Thread nD τ), s') () n : CellTallies nD τ sig Unit) ((c : Thread nD τ), s) ()
      = if d ≠ c ∧ s = s' then n else 0 := by
  rw [Finset.sum_apply, Finsupp.finset_sum_apply]
  have h : ∀ e : Dev nD, (tallyAt ((e : Thread nD τ), s') () n : CellTallies nD τ sig Unit) ((c : Thread nD τ), s) () = if e = c then (if s = s' then n else 0) else 0 := by
    intro e
    rw [tallyAt_apply]
    by_cases h1 : e = c
    · by_cases h2 : s = s'
      · rw [if_pos ⟨by rw [h1, h2], rfl⟩, if_pos h1, if_pos h2]
      · rw [if_neg (fun hh => h2 (cell_eq_iff.mp hh.1).2), if_pos h1, if_neg h2]
    · rw [if_neg (fun hh => h1 (cell_eq_iff.mp hh.1).1.symm), if_neg h1]
  rw [sum_others d (fun e => (tallyAt ((e : Thread nD τ), s') () n : CellTallies nD τ sig Unit) ((c : Thread nD τ), s) ()),
    Finset.sum_congr rfl fun e _ => h e, Finset.sum_ite_eq']
  by_cases h1 : d = c
  · rw [if_neg (by rw [h1]; exact Finset.notMem_erase _ _), if_neg (fun hh => hh.1 h1)]
  · rw [if_pos (Finset.mem_erase.mpr ⟨fun hh => h1 hh.symm, Finset.mem_univ _⟩)]
    by_cases h2 : s = s'
    · rw [if_pos h2, if_pos ⟨h1, h2⟩]
    · rw [if_neg h2, if_neg (fun hh => h2 hh.2)]

theorem owed_at (c d : Dev nD) (s : SemLoc sig) :
    O₀ d ((c : Thread nD τ), s) () = (if d ≠ c ∧ s = .reg barS then 1 else 0)
      + ((if d ≠ c ∧ s = .dma (dsem (12 + d.val % 8)) then Ns else 0) + (if d ≠ c ∧ s = .dma (dsem (28 + d.val % 8)) then Na else 0)) := by
  unfold O₀ owed
  rw [Pi.add_apply, Finsupp.add_apply, Pi.add_apply, Finsupp.add_apply, owed_on, owed_on, owed_on]

/-- The total owed to a cell, once it is known who owes it. -/
theorem launch_at {c : Dev nD} {s : SemLoc sig} {n : ℕ} (h : ∑ d : Dev nD, O₀ d ((c : Thread nD τ), s) () = n) :
    tallyOn ((c : Thread nD τ), s) (launchCredit (Pipeline.owing O₀) 0 ((c : Thread nD τ), s)) = (tallyAt ((c : Thread nD τ), s) () n : CellTallies nD τ sig Unit) := by
  unfold tallyAt; refine congrArg _ (Finsupp.ext fun u => ?_); cases u
  rw [Pipeline.launchCredit_owing, Finsupp.single_eq_same, h]

theorem dma_ne_reg {q : DmaSem sig} {b : Sem sig} : (SemLoc.dma q : SemLoc sig) ≠ .reg b := nofun

theorem owed_bar (c d : Dev nD) : O₀ d (barCell c) () = if d ≠ c then 1 else 0 := by
  have h1 : ∀ q : DmaSem sig, ¬ (d ≠ c ∧ (SemLoc.reg barS : SemLoc sig) = .dma q) := fun q h => dma_ne_reg h.2.symm
  rw [owed_at, if_neg (h1 _), if_neg (h1 _), Nat.add_zero]
  by_cases h : d ≠ c
  · rw [if_pos h, if_pos ⟨h, rfl⟩]
  · rw [if_neg h, if_neg (fun hh => h hh.1)]
theorem total_bar (c : Dev nD) : ∑ d : Dev nD, O₀ d (barCell c) () = 7 := by
  have h : ∀ c : Dev nD, ∑ d : Dev nD, (if d ≠ c then 1 else 0) = 7 := by decide +kernel
  rw [Finset.sum_congr rfl fun d _ => owed_bar c d]
  exact h c
theorem total_rcv (c e : Dev nD) (h : e ≠ c) : ∑ d : Dev nD, O₀ d (rcvCell c e.val) () = Ns := by
  have hs : ∀ d e : Dev nD, (SemLoc.dma (dsem (12 + e.val % 8)) : SemLoc sig) = .dma (dsem (12 + d.val % 8)) → d = e := by decide +kernel
  have h2 : ∀ d e : Dev nD, (SemLoc.dma (dsem (12 + e.val % 8)) : SemLoc sig) ≠ .dma (dsem (28 + d.val % 8)) := by decide +kernel
  rw [Finset.sum_eq_single e]
  · rw [owed_at, if_neg (fun h => dma_ne_reg h.2), if_pos ⟨h, rfl⟩, if_neg (fun h => h2 _ _ h.2)]; omega
  · intro d _ hd
    rw [owed_at, if_neg (fun h => dma_ne_reg h.2), if_neg (fun h => hd (hs _ _ h.2)), if_neg (fun h => h2 _ _ h.2)]; rfl
  · intro h; exact absurd (Finset.mem_univ _) h
theorem total_mr (c e : Dev nD) (h : e ≠ c) : ∑ d : Dev nD, O₀ d (mrCell c e.val) () = Na := by
  have hs : ∀ d e : Dev nD, (SemLoc.dma (dsem (28 + e.val % 8)) : SemLoc sig) = .dma (dsem (28 + d.val % 8)) → d = e := by decide +kernel
  have h2 : ∀ d e : Dev nD, (SemLoc.dma (dsem (28 + e.val % 8)) : SemLoc sig) ≠ .dma (dsem (12 + d.val % 8)) := by decide +kernel
  rw [Finset.sum_eq_single e]
  · rw [owed_at, if_neg (fun h => dma_ne_reg h.2), if_neg (fun h => h2 _ _ h.2), if_pos ⟨h, rfl⟩]; omega
  · intro d _ hd
    rw [owed_at, if_neg (fun h => dma_ne_reg h.2), if_neg (fun h => h2 _ _ h.2), if_neg (fun h => hd (hs _ _ h.2))]; rfl
  · intro h; exact absurd (Finset.mem_univ _) h

/-- What the launch leaves device `c`: seven units of its barrier, and from every other device a chunk and a maximum. -/
def credits (c : Dev nD) : sProp 𝕄 :=
  iprop(cred (tallyAt (barCell c) () 7)
    ∗ bigSep (Finset.univ.erase c) fun d : Dev nD => iprop(cred (tallyAt (rcvCell c d.val) () Ns) ∗ cred (tallyAt (mrCell c d.val) () Na)))

theorem creds (c : Dev nD) : (Pipeline.launchCred O₀ c : sProp 𝕄) ⊢ credits c := by
  have hall : (Pipeline.launchCred O₀ c : sProp 𝕄)
      ⊢ bigSep (Finset.univ : Finset (Fin 35)) (fun i => cred (tallyOn (kcell (c, i)) (launchCredit (Pipeline.owing O₀) 0 (kcell (c, i))))) := by
    unfold Pipeline.launchCred
    refine (BI.bigSep_subset (Finset.subset_univ ((Finset.univ : Finset (Fin 35)).map ⟨csem, csem_injective⟩))).trans ?_
    rw [bigSep_map]; exact Entails.refl _
  refine hall.trans ?_
  rw [cells_all (F := F) (fun g => cred (tallyOn g (launchCredit (Pipeline.owing O₀) 0 g))) c, launch_at (total_bar c)]
  unfold credits Cells
  rw [over_devices (fun k => cred (tallyOn (rcvCell c k) (launchCredit (Pipeline.owing O₀) 0 (rcvCell c k)))),
    over_devices (fun k => cred (tallyOn (mrCell c k) (launchCredit (Pipeline.owing O₀) 0 (mrCell c k)))),
    take_one (Finset.mem_univ c) (fun d : Dev nD => cred (tallyOn (rcvCell c d.val) (launchCredit (Pipeline.owing O₀) 0 (rcvCell c d.val)))),
    take_one (Finset.mem_univ c) (fun d : Dev nD => cred (tallyOn (mrCell c d.val) (launchCredit (Pipeline.owing O₀) 0 (mrCell c d.val)))),
    bigSep_congr (s := Finset.univ.erase c) fun d hd => congrArg cred (launch_at (total_rcv c d (Finset.ne_of_mem_erase hd))),
    bigSep_congr (s := Finset.univ.erase c) fun d hd => congrArg cred (launch_at (total_mr c d (Finset.ne_of_mem_erase hd)))]
  iintro ⟨Hb, -, -, -, ⟨-, Hr⟩, -, -, Hm⟩
  isplitl [Hb]; · iexact Hb
  iapply (join (F := F) (Finset.univ.erase c) (fun d : Dev nD => cred (tallyAt (rcvCell c d.val) () Ns)) (fun d => cred (tallyAt (mrCell c d.val) () Na)))
  isplitl [Hr] <;> iassumption

end Cert.Exchange

end
-- ==== Proof.Pieces.lean ====
/-
A device's buffers cut into the pieces its body works on, and put together again: the state the body starts from made of
what the launch hands over, and what the launch wants back made of the state the body ends in.
-/
module

public import proofs.«01_k».proof.Proof.Deal

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families of rectangles that tile a shape -/

/-- The first `n` rectangles of the family are disjoint and cover the shape. -/
def Tiling {s : Shape} (r : ℕ → Rect s) (n : ℕ) : Prop :=
  (∀ t t' : Fin n, t ≠ t' → Disjoint (r t.val).set (r t'.val).set) ∧ ∀ i : s.Idx, ∃ t : Fin n, i ∈ (r t.val).set

theorem Tiling.cover {s : Shape} {r : ℕ → Rect s} {n : ℕ} (h : Tiling r n) :
    (Finset.univ : Finset (Fin n)).biUnion (fun t => (r t.val).set) = Finset.univ := by
  ext i
  simp only [Finset.mem_biUnion, Finset.mem_univ, true_and, iff_true]
  exact h.2 i

/-- Contents given piece by piece are contents of the whole. -/
theorem Tiling.glue {s : Shape} {r : ℕ → Rect s} {n : ℕ} (h : Tiling r n) {α : Type} [Nonempty α] (Xs : (t : Fin n) → (r t.val).shape.Idx → α) :
    ∃ X : s.Idx → α, ∀ (t : Fin n) j, X ((r t.val).emb j) = Xs t j := by
  classical
  have hx : ∀ i : s.Idx, ∃ y : α, ∀ (t : Fin n) j, (r t.val).emb j = i → y = Xs t j := by
    intro i
    obtain ⟨t, ht⟩ := h.2 i
    rw [← Rect.map_emb_univ, Finset.mem_map] at ht
    obtain ⟨j, -, rfl⟩ := ht
    refine ⟨Xs t j, fun t' j' he => ?_⟩
    by_cases htt : t = t'
    · subst htt; rw [(r t.val).emb.injective he]
    · exfalso
      have hd := Finset.disjoint_left.mp (h.1 t t' htt)
      refine hd (a := (r t.val).emb j) ?_ ?_
      · rw [← Rect.map_emb_univ]; exact Finset.mem_map_of_mem _ (Finset.mem_univ _)
      · rw [← he, ← Rect.map_emb_univ]; exact Finset.mem_map_of_mem _ (Finset.mem_univ _)
  choose X hX using hx
  exact ⟨X, fun t j => hX _ t j rfl⟩

section Cut

variable {sp : Space} {s : Shape} {e : EltTy} (c : Dev nD) (v : Memref sig .tc sp s e) (r : ℕ → Rect s) (hr : ∀ t a, (r t).stride a = 1) {n : ℕ} (h : Tiling r n)
include h

theorem cut_at (q : PosShare TreeShare) (X : s.Idx → Elt F e) :
    (owns (c : Thread nD τ) v q X : sProp 𝕄) ⊢ bigSep (Finset.Ico 0 n) fun t => owns (c : Thread nD τ) (v.slice (r t) (hr t)) q (fun j => X ((r t).emb j)) := by
  rw [← bigSep_numbers n (fun t => (owns (c : Thread nD τ) (v.slice (r t) (hr t)) q (fun j => X ((r t).emb j)) : sProp 𝕄))]
  exact owns_rects (c : Thread nD τ) v q (fun t : Fin n => r t.val) (fun t => hr t.val) h.1 h.cover X
theorem whole_at (q : PosShare TreeShare) (X : s.Idx → Elt F e) :
    (bigSep (Finset.Ico 0 n) fun t => owns (c : Thread nD τ) (v.slice (r t) (hr t)) q (fun j => X ((r t).emb j))) ⊢ (owns (c : Thread nD τ) v q X : sProp 𝕄) := by
  rw [← bigSep_numbers n (fun t => (owns (c : Thread nD τ) (v.slice (r t) (hr t)) q (fun j => X ((r t).emb j)) : sProp 𝕄))]
  exact owns_of_rects (c : Thread nD τ) v q (fun t : Fin n => r t.val) (fun t => hr t.val) h.1 h.cover X

theorem cut : (some_ c v : sProp 𝕄) ⊢ bigSep (Finset.Ico 0 n) fun t => some_ c (v.slice (r t) (hr t)) := by
  have h1 (X : s.Idx → Elt F e) (t : ℕ) : owns (c : Thread nD τ) (v.slice (r t) (hr t)) fullShare (fun j => X ((r t).emb j)) ⊢ (some_ c (v.slice (r t) (hr t)) : sProp 𝕄) := by
    iintro H; iexists _; iexact H
  iintro ⟨%X, H⟩
  ihave H' := (cut_at (F := F) c v r hr h fullShare X) $$ H
  have hm : (bigSep (Finset.Ico 0 n) fun t => (owns (c : Thread nD τ) (v.slice (r t) (hr t)) fullShare (fun j => X ((r t).emb j)) : sProp 𝕄))
      ⊢ bigSep (Finset.Ico 0 n) fun t => some_ c (v.slice (r t) (hr t)) :=
    bigSep_mono fun t _ => h1 X t
  iapply hm; iexact H'
theorem whole : (bigSep (Finset.Ico 0 n) fun t => some_ c (v.slice (r t) (hr t))) ⊢ (some_ c v : sProp 𝕄) := by
  rw [← bigSep_numbers n (fun t => (some_ c (v.slice (r t) (hr t)) : sProp 𝕄))]
  iintro H
  ihave HX := (BI.bigSep_exists_pi Finset.univ (fun (t : Fin n) (X : (r t.val).shape.Idx → Elt F e) => (owns (c : Thread nD τ) (v.slice (r t.val) (hr t.val)) fullShare X : sProp 𝕄))) $$ H
  icases HX with ⟨%Xs, H⟩
  obtain ⟨X, hX⟩ := h.glue Xs
  iexists X
  iapply (owns_of_rects (c : Thread nD τ) v fullShare (fun t : Fin n => r t.val) (fun t => hr t.val) h.1 h.cover X)
  ihave H' := (Entails.of_eq (bigSep_congr (s := (Finset.univ : Finset (Fin n))) fun t _ =>
    show (owns (c : Thread nD τ) (v.slice (r t.val) (hr t.val)) fullShare (Xs t) : sProp 𝕄) = owns (c : Thread nD τ) (v.slice (r t.val) (hr t.val)) fullShare (fun j => X ((r t.val).emb j)) from by
      rw [show (fun j => X ((r t.val).emb j)) = Xs t from funext fun j => hX t j])) $$ H
  iexact H'

end Cut

/-! ## The kernel's buffers are tiled by the pieces it uses -/

theorem tiling_slot : Tiling slotR 8 := by
  refine ⟨fun t t' h => Rect.disjoint_of_axis _ _ 0 fun j₁ h₁ j₂ h₂ => ?_, fun i => ⟨⟨(i 0).val, (i 0).isLt⟩, (slotR _).mem_set.mpr fun a => ?_⟩⟩
  · change j₁ < 1 at h₁; change j₂ < 1 at h₂
    show t.val % 8 + 1 * j₁ ≠ t'.val % 8 + 1 * j₂
    have : t.val ≠ t'.val := fun hh => h (Fin.ext hh)
    omega
  · have h0 : (i 0).val < 8 := (i 0).isLt
    fin_cases a
    · exact ⟨0, Nat.one_pos, show (i 0).val = (i 0).val % 8 + 1 * 0 by omega⟩
    · exact ⟨(i 1).val, (i 1).isLt, show (i 1).val = 0 + 1 * (i 1).val by omega⟩
    · exact ⟨(i 2).val, (i 2).isLt, show (i 2).val = 0 + 1 * (i 2).val by omega⟩
theorem tiling_stage : Tiling stageR 2 := by
  refine ⟨fun t t' h => Rect.disjoint_of_axis _ _ 0 fun j₁ h₁ j₂ h₂ => ?_, fun i => ⟨⟨(i 0).val, (i 0).isLt⟩, (stageR _).mem_set.mpr fun a => ?_⟩⟩
  · change j₁ < 1 at h₁; change j₂ < 1 at h₂
    show t.val % 2 + 1 * j₁ ≠ t'.val % 2 + 1 * j₂
    have : t.val ≠ t'.val := fun hh => h (Fin.ext hh)
    omega
  · have h0 : (i 0).val < 2 := (i 0).isLt
    fin_cases a
    · exact ⟨0, Nat.one_pos, show (i 0).val = (i 0).val % 2 + 1 * 0 by omega⟩
    · exact ⟨(i 1).val, (i 1).isLt, show (i 1).val = 0 + 1 * (i 1).val by omega⟩
    · exact ⟨(i 2).val, (i 2).isLt, show (i 2).val = 0 + 1 * (i 2).val by omega⟩
theorem tiling_row : Tiling rowR 8 := by
  refine ⟨fun t t' h => Rect.disjoint_of_axis _ _ 0 fun j₁ h₁ j₂ h₂ => ?_, fun i => ⟨⟨(i 0).val, (i 0).isLt⟩, (rowR _).mem_set.mpr fun a => ?_⟩⟩
  · change j₁ < 1 at h₁; change j₂ < 1 at h₂
    show t.val % 8 + 1 * j₁ ≠ t'.val % 8 + 1 * j₂
    have : t.val ≠ t'.val := fun hh => h (Fin.ext hh)
    omega
  · have h0 : (i 0).val < 8 := (i 0).isLt
    fin_cases a
    · exact ⟨0, Nat.one_pos, show (i 0).val = (i 0).val % 8 + 1 * 0 by omega⟩
    · exact ⟨(i 1).val, (i 1).isLt, show (i 1).val = 0 + 1 * (i 1).val by omega⟩
theorem tiling_out : Tiling outR 8 := by
  refine ⟨fun t t' h => Rect.disjoint_of_axis _ _ 0 fun j₁ h₁ j₂ h₂ => ?_, fun i => ⟨⟨(i 0).val / 512, ?_⟩, (outR _).mem_set.mpr fun a => ?_⟩⟩
  · change j₁ < 512 at h₁; change j₂ < 512 at h₂
    show 512 * (t.val % 8) + 1 * j₁ ≠ 512 * (t'.val % 8) + 1 * j₂
    have : t.val ≠ t'.val := fun hh => h (Fin.ext hh)
    omega
  · have h0 : (i 0).val < 4096 := (i 0).isLt
    omega
  · have h0 : (i 0).val < 4096 := (i 0).isLt
    fin_cases a
    · exact ⟨(i 0).val % 512, Nat.mod_lt _ (by decide), show (i 0).val = 512 * ((i 0).val / 512 % 8) + 1 * ((i 0).val % 512) by omega⟩
    · exact ⟨(i 1).val, (i 1).isLt, show (i 1).val = 0 + 1 * (i 1).val by omega⟩
theorem tiling_max : Tiling (fun _ => maxR) 1 := by
  refine ⟨fun t t' h => absurd (Subsingleton.elim t t') h, fun i => ⟨0, maxR.mem_set.mpr fun a => ?_⟩⟩
  fin_cases a
  · exact ⟨(i 0).val, (i 0).isLt, show (i 0).val = 0 + 1 * (i 0).val by omega⟩
  · exact ⟨(i 1).val, (i 1).isLt, show (i 1).val = 0 + 1 * (i 1).val by omega⟩
theorem tiling_x : Tiling (fun _ => xR) 1 := by
  refine ⟨fun t t' h => absurd (Subsingleton.elim t t') h, fun i => ⟨0, xR.mem_set.mpr fun a => ?_⟩⟩
  fin_cases a
  · exact ⟨(i 0).val, (i 0).isLt, show (i 0).val = 0 + 1 * (i 0).val by omega⟩
  · exact ⟨(i 1).val, (i 1).isLt, show (i 1).val = 0 + 1 * (i 1).val by omega⟩

/-- The result of device `c`: block `s` of its rows is made of device `s`'s product with chunk `c`. -/
theorem exists_outAll (c : Dev nD) : ∃ X : (cc0_stg1_0 : Ref sig .tc).ty.Contents (Elt F), ∀ (k : Fin 8) j, X ((outR k.val).emb j) = outV m c (dv k.val) j :=
  haveI : Nonempty (Elt F .f32) := (inferInstance : ∀ e, Nonempty (Elt F e)) .f32
  tiling_out.glue (α := Elt F .f32) fun k => outV m c (dv k.val)
def outAll (c : Dev nD) : (cc0_stg1_0 : Ref sig .tc).ty.Contents (Elt F) := (exists_outAll m c).choose
theorem outAll_at (c : Dev nD) (k : Fin 8) (j) : outAll m c ((outR k.val).emb j) = outV m c (dv k.val) j := (exists_outAll m c).choose_spec k j

theorem x_cut (c : Dev nD) : owns (c : Thread nD τ) xM fullShare (xraw m c) ⊢ (owns (c : Thread nD τ) (xM.slice xR (fun _ => rfl)) fullShare (xval m c) : sProp 𝕄) :=
  (cut_at c xM (fun _ => xR) (fun _ _ => rfl) tiling_x fullShare (xraw m c)).trans (Entails.of_eq (bigSep_Ico_one 0 _))
theorem x_whole (c : Dev nD) : owns (c : Thread nD τ) (xM.slice xR (fun _ => rfl)) fullShare (xval m c) ⊢ (owns (c : Thread nD τ) xM fullShare (xraw m c) : sProp 𝕄) :=
  (Entails.of_eq (bigSep_Ico_one 0 (fun _ => (owns (c : Thread nD τ) (xM.slice xR (fun _ => rfl)) fullShare (xval m c) : sProp 𝕄))).symm).trans
    (whole_at c xM (fun _ => xR) (fun _ _ => rfl) tiling_x fullShare (xraw m c))
theorem out_whole (c : Dev nD) : bigSep (Finset.Ico 0 8) (outDone m c) ⊢ (owns (c : Thread nD τ) oM fullShare (outAll m c) : sProp 𝕄) := by
  refine BI.Entails.trans (Entails.of_eq (bigSep_congr fun k hk => ?_)) (whole_at c oM outR (fun _ _ => rfl) tiling_out fullShare (outAll m c))
  unfold outDone
  rw [show (fun j => outAll m c ((outR k).emb j)) = outV m c (dv k) from funext fun j => outAll_at m c ⟨k, (Finset.mem_Ico.mp hk).2⟩ j]
theorem max_cut (c : Dev nD) : (some_ c aM : sProp 𝕄) ⊢ some_ c maxAt :=
  (cut c aM (fun _ => maxR) (fun _ _ => rfl) tiling_max).trans (Entails.of_eq (bigSep_Ico_one 0 _))
theorem max_whole (c : Dev nD) : (some_ c maxAt : sProp 𝕄) ⊢ some_ c aM :=
  (Entails.of_eq (bigSep_Ico_one 0 (fun _ => (some_ c maxAt : sProp 𝕄))).symm).trans (whole c aM (fun _ => maxR) (fun _ _ => rfl) tiling_max)

/-! ## Entry -/

/-- The scratch buffers, each whole at some contents. -/
def held (c : Dev nD) : sProp 𝕄 := iprop(some_ c wM ∗ some_ c sM ∗ some_ c qM ∗ some_ c aM ∗ some_ c gM)

/-- The landing slots and rows: those for the other devices are handed over with the entry signals; with the credits the
    launch left and the positions, the rest is what the device's own receives need. -/
theorem entry_recv (c : Dev nD) :
    iprop(some_ c qM ∗ some_ c gM
        ∗ (bigSep (Finset.univ.erase c) fun d : Dev nD => iprop(cred (tallyAt (rcvCell c d.val) () Ns) ∗ cred (tallyAt (mrCell c d.val) () Na)))
        ∗ (bigSep (Finset.Ico 0 8) fun k => atPos ER (rcvCell c k) 0 ∅ 0) ∗ bigSep (Finset.Ico 0 8) fun k => atPos ER (mrCell c k) 0 ∅ 0)
      ⊢ (iprop((bigSep (Finset.Ico 0 7) fun k => barPay (peer c k) c) ∗ Recv m c 0) : sProp 𝕄) := by
  have hpay : (bigSep (Finset.Ico 0 7) fun k => (barPay (peer c k) c : sProp 𝕄))
      = iprop((bigSep (Finset.univ.erase c) fun d : Dev nD => some_ c (recvAt d.val)) ∗ bigSep (Finset.univ.erase c) fun d : Dev nD => some_ c (rowAt d.val)) := by
    rw [← bigSep_others c (fun d => (barPay d c : sProp 𝕄)), ← bigSep_sep']; rfl
  have hdue : bigSep (Finset.Ico 0 8) (Due₀ (F := F) c)
      = iprop(Due₀ c c.val ∗ bigSep (Finset.univ.erase c) fun d : Dev nD => iprop(iprop(cred (tallyAt (rcvCell c d.val) () Ns) ∗ cred (tallyAt (mrCell c d.val) () Na))
          ∗ atPos ER (rcvCell c d.val) 0 ∅ 0 ∗ atPos ER (mrCell c d.val) 0 ∅ 0)) := by
    rw [over_devices, take_one (Finset.mem_univ c) (fun d : Dev nD => Due₀ (F := F) c d.val)]
    refine congrArg (fun Z => iprop(Due₀ c c.val ∗ Z)) (bigSep_congr fun d hd => ?_)
    unfold Due₀
    rw [if_neg (by rw [dv_val]; exact Finset.ne_of_mem_erase hd)]
  unfold Recv
  rw [hpay, hdue, Finset.Ico_self, bigSep_empty, over_devices (fun k => atPos ER (rcvCell c k) 0 ∅ 0), over_devices (fun k => atPos ER (mrCell c k) 0 ∅ 0),
    take_one (Finset.mem_univ c) (fun d : Dev nD => (atPos ER (rcvCell c d.val) 0 ∅ 0 : sProp 𝕄)), take_one (Finset.mem_univ c) (fun d : Dev nD => (atPos ER (mrCell c d.val) 0 ∅ 0 : sProp 𝕄))]
  iintro ⟨Hq, Hg, Hcr, ⟨Har, Hars⟩, Ham, Hams⟩
  have hq : (some_ c qM : sProp 𝕄) ⊢ bigSep (Finset.Ico 0 8) fun k => some_ c (recvAt k) := cut c qM slotR (fun _ _ => rfl) tiling_slot
  have hg : (some_ c gM : sProp 𝕄) ⊢ bigSep (Finset.Ico 0 8) fun k => some_ c (rowAt k) := cut c gM rowR (fun _ _ => rfl) tiling_row
  ihave Hq := hq $$ Hq
  ihave Hg := hg $$ Hg
  ihave Hq := (Entails.of_eq ((over_devices (F := F) fun k => some_ c (recvAt k)).trans (take_one (Finset.mem_univ c) _))) $$ Hq
  ihave Hg := (Entails.of_eq ((over_devices (F := F) fun k => some_ c (rowAt k)).trans (take_one (Finset.mem_univ c) _))) $$ Hg
  icases Hq with ⟨Hq, Hqs⟩
  icases Hg with ⟨Hg, Hgs⟩
  isplitl [Hqs Hgs]
  · isplitl [Hqs] <;> iassumption
  isplitl
  · isplitl [Hq Hg Har Ham]
    · unfold Due₀
      rw [if_pos (dv_val c)]
      isplitl [Hq Hg]
      · isplitl [Hq] <;> iassumption
      isplitl [Har] <;> iassumption
    · iapply (join (F := F) (Finset.univ.erase c) (fun d : Dev nD => iprop(cred (tallyAt (rcvCell c d.val) () Ns) ∗ cred (tallyAt (mrCell c d.val) () Na)))
        (fun d : Dev nD => iprop(atPos ER (rcvCell c d.val) 0 ∅ 0 ∗ atPos ER (mrCell c d.val) 0 ∅ 0)))
      isplitl [Hcr]; · iexact Hcr
      iapply (join (F := F) (Finset.univ.erase c) (fun d : Dev nD => atPos ER (rcvCell c d.val) 0 ∅ 0) (fun d : Dev nD => atPos ER (mrCell c d.val) 0 ∅ 0))
      isplitl [Hars] <;> iassumption
  · iempintro

/-- The two halves of the staging buffer. -/
theorem two (Φ : ℕ → sProp 𝕄) : bigSep (Finset.Ico 0 2) Φ = iprop(Φ 0 ∗ Φ 1) := by
  rw [bigSep_Ico_succ_bot (by omega), bigSep_Ico_one]

theorem entry (c : Dev nD) :
    iprop(Env m ∗ Owes c (O₀ c) ∗ owns (c : Thread nD τ) xM fullShare (xraw m c) ∗ some_ c oM ∗ held c
        ∗ (((c : Thread nD τ).loc main_arg1) ↦{fullShare} (m ((c : Thread nD τ).loc main_arg1))) ∗ linear c ∗ credits c)
      ⊢ St m c (owed c 0 0 0) (Bar c 0) (Wfree m c 0) (Snd m c 0 0 0) (Max0 c) (Recv m c 0) (Out0 c) := by
  have hreach (t : ℕ) (h : 2 + t % 2 < 36) : Env m ⊢ (reached ER (wCell c t) 0 : sProp 𝕄) := by
    have hh := env_dma m c (q := 2 + t % 2) (by omega) h
    iintro H
    ihave H' := hh $$ H
    icases H' with ⟨-, H'⟩
    iexact H'
  unfold held linear payToks credits Cells
  iintro ⟨#HE, Ho, Hx, Hout, ⟨Hw, Hs, Hq, Ha, Hg⟩, Hb, ⟨⟨Hab, Haw0, Haw1, Has, Har, Hams, Hamr⟩, HtB, HtW, HtS, HtR, HtM, HtA⟩, HcB, Hcr⟩
  ihave Hrec := (entry_recv m c) $$ [Hq Hg Hcr Har Hamr]
  · isplitl [Hq]; · iexact Hq
    isplitl [Hg]; · iexact Hg
    isplitl [Hcr]; · iexact Hcr
    isplitl [Har] <;> iassumption
  icases Hrec with ⟨Hpay, Hrec⟩
  have hw : (some_ c wM : sProp 𝕄) ⊢ bigSep (Finset.Ico 0 2) fun k => some_ c (stageAt k) := cut c wM stageR (fun _ _ => rfl) tiling_stage
  ihave Hw := hw $$ Hw
  ihave Hw := (Entails.of_eq (two (F := F) fun k => some_ c (stageAt k))) $$ Hw
  icases Hw with ⟨Hw0, %Y, Hw1⟩
  unfold St Bar Sg Wfree Wcore Snd Max0 Out0
  isplitr; · iexact HE
  isplitl [Ho]; · iexact Ho
  isplitl [Hx]; · iapply (x_cut m c); iexact Hx
  isplitl [HtB Hpay HcB Hab]
  · isplitl [HtB Hpay]
    · iapply (join (F := F) (Finset.Ico 0 7) (fun k => dutyTok ER (barCell (peer c k)) 0 c) (fun k => barPay (peer c k) c))
      isplitl [HtB] <;> iassumption
    · isplitl [HcB] <;> iassumption
  isplitl [Hb HtW Haw0 Haw1 Hw0 Hw1]
  · isplitl [Hb HtW Haw0 Haw1 Hw1]
    · isplitl [Hb]; · iexact Hb
      isplitl [HtW]; · iexact HtW
      isplitl [Haw0]
      · isplitl [Haw0]; · iexact Haw0
        iapply (hreach 0 (by omega)); iexact HE
      isplitl [Haw1]
      · isplitl [Haw1]; · iexact Haw1
        iapply (hreach 1 (by omega)); iexact HE
      iexists Y
      isplitr; · ipureintro; intro t ht; omega
      iexact Hw1
    · iexact Hw0
  isplitl [Hs HtS HtR Has]
  · isplitl [Hs]; · iapply (cut (F := F) c sM slotR (fun _ _ => rfl) tiling_slot); iexact Hs
    isplitr; · rw [Finset.Ico_self, bigSep_empty]; iempintro
    isplitl [HtS HtR]
    · iapply (join (F := F) (Finset.Ico 0 7) (fun k => dutyTok ER (sndCell c k) 0 (0 : Dev nD)) (fun k => dutyTok ER (rcvCell (peer c k) c.val) 0 (0 : Dev nD)))
      isplitl [HtS] <;> iassumption
    isplitr; · rw [Finset.Ico_self, bigSep_empty]; iempintro
    isplitl [Has]; · iexact Has
    rw [Finset.Ico_self, bigSep_empty]; iempintro
  isplitl [Ha HtM HtA Hams]
  · isplitl [Ha]; · iapply (max_cut (F := F) c); iexact Ha
    isplitl [HtM HtA]
    · iapply (join (F := F) (Finset.Ico 0 7) (fun k => dutyTok ER (msCell c k) 0 (0 : Dev nD)) (fun k => dutyTok ER (mrCell (peer c k) c.val) 0 (0 : Dev nD)))
      isplitl [HtM] <;> iassumption
    iexact Hams
  isplitl [Hrec]; · iexact Hrec
  iapply (cut (F := F) c oM outR (fun _ _ => rfl) tiling_out); iexact Hout

/-! ## Exit -/

/-- The shares of the row of the maximum, given back, are the whole of it. -/
theorem rejoin (c : Dev nD) (X : S1x128.Idx → Elt F .f32) (n : ℕ) :
    iprop(owns (c : Thread nD τ) maxAt (sh n) X ∗ bigSep (Finset.Ico 0 n) fun k => owns (c : Thread nD τ) maxAt (sh k).right X)
      ⊢ (owns (c : Thread nD τ) maxAt fullShare X : sProp 𝕄) := by
  induction n with
  | zero =>
    iintro ⟨H, -⟩; iexact H
  | succ n ih =>
    rw [bigSep_Ico_succ_top (Nat.zero_le n)]
    iintro ⟨Hl, Hr, Hs⟩
    iapply ih
    isplitl [Hl Hr]
    · iapply (owns_halves (c : Thread nD τ) maxAt (sh n) X).2
      isplitl [Hl]
      · iexact Hl
      · iexact Hr
    · iexact Hs

theorem close_one (c : Dev nD) {q R : ℕ} (h₂ : 2 ≤ q) (hq : q < 36) (hR : ∀ r, R ≤ r → ¬ Due c q r) :
    iprop(Env m ∗ atPos ER (dcell c q) R ∅ 0) ⊢ (iprop(|={Set.univ}=> semVal (dcell c q) 0) : sProp 𝕄) := by
  iintro ⟨#HE, Ha⟩
  ihave HK := (env_dma m c h₂ hq) $$ HE
  icases HK with ⟨#HK, -⟩
  iapply (close_dma m c hq hR)
  isplitr; · iexact HK
  iexact Ha

theorem exit_recv (c : Dev nD) : Recv m c 8
    ⊢ (iprop(some_ c qM ∗ some_ c gM ∗ (bigSep (Finset.Ico 0 8) fun k => semVal (rcvCell c k) 0) ∗ bigSep (Finset.Ico 0 8) fun k => semVal (mrCell c k) 0) : sProp 𝕄) := by
  have h1 (s : ℕ) : Got m c s ⊢ (iprop(some_ c (recvAt s) ∗ some_ c (rowAt s) ∗ semVal (rcvCell c s) 0 ∗ semVal (mrCell c s) 0) : sProp 𝕄) := by
    unfold Got
    iintro ⟨⟨%X, -, HX⟩, ⟨%Y, -, HY⟩, H1, H2⟩
    isplitl [HX]; · iexists X; iexact HX
    isplitl [HY]; · iexists Y; iexact HY
    isplitl [H1] <;> iassumption
  have h : bigSep (Finset.Ico 0 8) (Got m c)
      ⊢ bigSep (Finset.Ico 0 8) fun s => (iprop(some_ c (recvAt s) ∗ some_ c (rowAt s) ∗ semVal (rcvCell c s) 0 ∗ semVal (mrCell c s) 0) : sProp 𝕄) :=
    bigSep_mono fun s _ => h1 s
  unfold Recv
  iintro ⟨-, H⟩
  ihave H := h $$ H
  ihave H := (split (F := F) (Finset.Ico 0 8) (fun s => some_ c (recvAt s)) (fun s => iprop(some_ c (rowAt s) ∗ semVal (rcvCell c s) 0 ∗ semVal (mrCell c s) 0))) $$ H
  icases H with ⟨Hq, H⟩
  ihave H := (split (F := F) (Finset.Ico 0 8) (fun s => some_ c (rowAt s)) (fun s => iprop(semVal (rcvCell c s) 0 ∗ semVal (mrCell c s) 0))) $$ H
  icases H with ⟨Hg, H⟩
  ihave H := (split (F := F) (Finset.Ico 0 8) (fun s => semVal (rcvCell c s) 0) (fun s => semVal (mrCell c s) 0)) $$ H
  isplitl [Hq]; · iapply (whole (F := F) c qM slotR (fun _ _ => rfl) tiling_slot); iexact Hq
  isplitl [Hg]; · iapply (whole (F := F) c gM rowR (fun _ _ => rfl) tiling_row); iexact Hg
  iexact H

/-- What a device is left with. -/
def done (c : Dev nD) : sProp 𝕄 :=
  iprop(held c ∗ semVal (barCell c) 0 ∗ Cells (fun g => semVal g 0) c ∗ (((c : Thread nD τ).loc main_arg1) ↦{sh 8} (m ((c : Thread nD τ).loc main_arg1))))

theorem exit_ (c : Dev nD) :
    St m c (owed c 7 7 7) (semVal (barCell c) 0) (Wfree m c 8) (Sends m c 8 7 7) (Maxs m c 7 7) (Recv m c 8) (Out m c 8)
      ⊢ (iprop(|={Set.univ}=> (done m c ∗ Owes c 0 ∗ owns (c : Thread nD τ) xM fullShare (xraw m c) ∗ owns (c : Thread nD τ) oM fullShare (outAll m c))) : sProp 𝕄) := by
  have d2 : ∀ r, 4 ≤ r → ¬ Due c 2 r := fun r hr h => by unfold Due at h; omega
  have d3 : ∀ r, 4 ≤ r → ¬ Due c 3 r := fun r hr h => by unfold Due at h; omega
  have d11 : ∀ r, 0 ≤ r → ¬ Due c 11 r := fun r hr h => by unfold Due at h; omega
  have d27 : ∀ r, 0 ≤ r → ¬ Due c 27 r := fun r hr h => by unfold Due at h; omega
  unfold St Wfree Wcore Sends Snd Maxs Out
  rw [owed_done, bigSep_Ico_one 7, bigSep_Ico_one 7, bigSep_Ico_one 7]
  iintro ⟨#HE, Ho, Hx, Hbar, ⟨⟨Hb, -, ⟨Ha8, -⟩, ⟨Ha9, -⟩, %X, -, Hw1⟩, Hw0⟩, ⟨⟨-, Hs7, -, -, Has7, Hss⟩, -⟩, ⟨Hm, -, -, Ham7, Hms, -⟩, Hrec, -, Hout⟩
  imod (close_one m c (q := 2) (R := 4) (by omega) (by omega) d2) $$ [Ha8] with Hv2
  · isplitr; · iexact HE
    iexact Ha8
  imod (close_one m c (q := 3) (R := 4) (by omega) (by omega) d3) $$ [Ha9] with Hv3
  · isplitr; · iexact HE
    iexact Ha9
  imod (close_one m c (q := 11) (R := 0) (by omega) (by omega) d11) $$ [Has7] with Hv11
  · isplitr; · iexact HE
    iexact Has7
  imod (close_one m c (q := 27) (R := 0) (by omega) (by omega) d27) $$ [Ham7] with Hv27
  · isplitr; · iexact HE
    iexact Ham7
  imodintro
  ihave Hrec := (exit_recv m c) $$ Hrec
  icases Hrec with ⟨Hq, Hg, Hrv, Hmv⟩
  ihave Hss := (split (F := F) (Finset.Ico 0 7) (fun k => some_ c (sendAt k)) (fun k => semVal (sndCell c k) 0)) $$ Hss
  icases Hss with ⟨Hss, Hsv⟩
  ihave Hms := (split (F := F) (Finset.Ico 0 7) (fun k => owns (c : Thread nD τ) maxAt (sh k).right (amxRow m c)) (fun k => semVal (msCell c k) 0)) $$ Hms
  icases Hms with ⟨Hms, Hmsv⟩
  unfold done held Cells
  isplitr [Ho Hx Hout]
  · isplitl [Hw0 Hw1 Hs7 Hss Hq Hm Hms Hg]
    · isplitl [Hw0 Hw1]
      · iapply (whole (F := F) c wM stageR (fun _ _ => rfl) tiling_stage)
        iapply (Entails.of_eq (two (F := F) fun k => some_ c (stageAt k)).symm)
        isplitl [Hw0]; · iexact Hw0
        iexists X; iexact Hw1
      isplitl [Hs7 Hss]
      · iapply (whole (F := F) c sM slotR (fun _ _ => rfl) tiling_slot)
        iapply (push (F := F) (Nat.zero_le 7) (fun k => some_ c (sendAt k)))
        isplitl [Hs7]; · iexists _; iexact Hs7
        iexact Hss
      isplitl [Hq]; · iexact Hq
      isplitl [Hm Hms]
      · iapply (max_whole (F := F) c)
        iexists (amxRow m c)
        iapply (rejoin (F := F) c (amxRow m c) 7)
        isplitl [Hm] <;> iassumption
      iexact Hg
    isplitl [Hbar]; · iexact Hbar
    isplitr [Hb]
    · isplitl [Hv2]; · iexact Hv2
      isplitl [Hv3]; · iexact Hv3
      isplitl [Hv11 Hsv]
      · iapply (push (F := F) (Nat.zero_le 7) (fun k => semVal (sndCell c k) 0))
        isplitl [Hv11] <;> iassumption
      isplitl [Hrv]; · iexact Hrv
      isplitl [Hv27 Hmsv]
      · iapply (push (F := F) (Nat.zero_le 7) (fun k => semVal (msCell c k) 0))
        isplitl [Hv27] <;> iassumption
      iexact Hmv
    iexact Hb
  · isplitl [Ho]; · iexact Ho
    isplitl [Hx]; · iapply (x_whole m c); iexact Hx
    iapply (out_whole m c); iexact Hout

end Cert.Exchange

end
-- ==== Proof.Run.lean ====
/-
The run: the region's proof data, its body obligation from the body's run, and the launch. Every weakly fair execution of
the kernel on the eight devices, from any memory, ends; every device's result array then holds the computed contents, its
argument arrays are unchanged and every counter is back at zero.
-/
module

public import proofs.«01_k».proof.Proof.Body
public import proofs.«01_k».proof.Proof.Pieces
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The region's data -/

/-- What a device has when the region is entered. -/
def start (c : Dev nD) : sProp 𝕄 :=
  iprop(G' m c ∗ levAts L lv ∗ credits c ∗ (((c : Thread nD τ).loc main_arg1) ↦{fullShare} (m ((c : Thread nD τ).loc main_arg1))))
def Φ₀ (c : Dev nD) : sProp 𝕄 := iprop(start m c ∗ held c)

def dats (_ : Fin 1) (c : Dev nD) : Dat τ (Elt F) Unit ℕ UU ℕ cfg0 c where
  A w := m ((cfg0.win w).arr.view.loc (c : Thread nD τ))
  after w _ := match w with
    | ⟨0, _⟩ => xraw m c
    | ⟨1, _⟩ => outAll m c
  Φ t := match t with
    | ⟨0, _⟩ => Φ₀ m c
    | ⟨_ + 1, _⟩ => done m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ

/-- A staging buffer whole at given contents. -/
abbrev stg (c : Dev nD) (b : Ref sig .tc) (X : b.ty.Contents (Elt F)) : sProp 𝕄 := owns (c : Thread nD τ) (Memref.whole b) fullShare X

def bodyPre (c : Dev nD) : sProp 𝕄 :=
  iprop(Φ₀ m c ∗ (dats m 0 c).owesAt () (t0_0 : Fin cfg0.N).castSucc
    ∗ (∃ d, stg c cc0_stg0_0 ((dats m 0 c).before (0 : Fin 2) (t0_0 : Fin cfg0.N) d))
    ∗ (∃ d, stg c cc0_stg1_0 ((dats m 0 c).before (1 : Fin 2) (t0_0 : Fin cfg0.N) d)))
def bodyPost (c : Dev nD) : sProp 𝕄 :=
  iprop(done m c ∗ (dats m 0 c).owesAt () (t0_0 : Fin cfg0.N).succ ∗ stg c cc0_stg0_0 (xraw m c) ∗ stg c cc0_stg1_0 (outAll m c))

theorem before_x (c : Dev nD) (d) : (dats m 0 c).before (0 : Fin 2) (t0_0 : Fin cfg0.N) d = xraw m c := by
  unfold Dat.before; rw [if_pos (fetch0_0 t0_0)]; rfl

theorem pre_state (c : Dev nD) : bodyPre m c
    ⊢ St m c (owed c 0 0 0) (Bar c 0) (Wfree m c 0) (Snd m c 0 0 0) (Max0 c) (Recv m c 0) (Out0 c) := by
  unfold bodyPre Φ₀ start G' records
  iintro ⟨⟨⟨⟨⟨#HI, #HR⟩, Hlin⟩, #Hlev, Hcr, Hb⟩, Hheld⟩, Ho, ⟨%d0, Hx⟩, ⟨%d1, Hout⟩⟩
  ihave Hx := (Entails.of_eq (congrArg (fun X => (stg c cc0_stg0_0 X : sProp 𝕄)) (before_x m c d0))) $$ Hx
  unfold Dat.owesAt Pipeline.owesWithin
  icases Ho with ⟨%W, -, HO⟩
  iapply (entry m c)
  isplitr
  · unfold Env
    isplitr; · iexact HI
    isplitr; · iexact HR
    iexact Hlev
  isplitl [HO]; · unfold Owes; iexists W; iexact HO
  isplitl [Hx]; · iexact Hx
  isplitl [Hout]; · iexists _; iexact Hout
  isplitl [Hheld]; · iexact Hheld
  isplitl [Hb]; · iexact Hb
  isplitl [Hlin]; · iexact Hlin
  iexact Hcr

theorem post_state (c : Dev nD) :
    iprop(done m c ∗ Owes c 0 ∗ owns (c : Thread nD τ) xM fullShare (xraw m c) ∗ owns (c : Thread nD τ) oM fullShare (outAll m c)) ⊢ bodyPost m c := by
  unfold bodyPost Owes Dat.owesAt Pipeline.owesWithin
  iintro ⟨Hd, ⟨%W, HO⟩, Hx, Hout⟩
  isplitl [Hd]; · iexact Hd
  isplitl [HO]
  · iexists W
    isplitr; · ipureintro; exact fun _ _ => Or.inl trivial
    iexact HO
  isplitl [Hx]; · iexact Hx
  iexact Hout

theorem sound (c : Dev nD) : bodyPre m c ⊢ run c (onBufs cc0_body) (fun _ => bodyPost m c) := by
  have hb := body m (c := c) (Q := fun _ => iprop(|={Set.univ}=> bodyPost m c)) ((exit_ m c).trans (BI.fupd_mono (post_state m c)))
  refine (pre_state m c).trans (hb.trans ?_)
  unfold run
  exact wp_fupd frame (wpE (defs₀ (F := F)) 𝒱₀ (c : Thread nD τ) none) Set.univ _ _

/-- The library's body obligation on device `c`. -/
theorem body_obligation (c : Dev nD) : BodyObligation (dats (F := F) m 0 c) (defs₀ (F := F)) 𝒱₀ () Set.univ := fun t => by
  rw [show t = t0_0 from fin_N0 t]
  rw [bigSep_W, bigSep_W]
  exact sound m c

/-! ## The launch theorem's side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, show Pipeline.unscopedRest cfg0.spec c (fun b => m ((c : Thread nD τ).loc b)) = _ from unscopedRest0_eq c _]
  iintro ⟨Hb, Hlev, Hcr, -, HG⟩
  ihave Hc := (creds (F := F) c) $$ Hcr
  imodintro
  unfold start
  isplitl
  · isplitl [HG]; · iexact HG
    isplitl [Hlev]; · iexact Hlev
    isplitl [Hc]; · iexact Hc
    iexact Hb
  · iempintro

theorem whole_held (c : Dev nD) (b : Ref sig .tc) :
    iprop(∃ f : Buf (Elt F) ((c : Thread nD τ).loc b), ((c : Thread nD τ).loc b) ↦{fullShare} f) ⊢ (some_ c (Memref.whole b) : sProp 𝕄) := by
  iintro ⟨%f, H⟩
  iexists f
  iapply (Entails.of_eq (owns_whole (c : Thread nD τ) b fullShare f).symm); iexact H
theorem held_whole (c : Dev nD) (b : Ref sig .tc) :
    some_ c (Memref.whole b) ⊢ (iprop(∃ f : Buf (Elt F) ((c : Thread nD τ).loc b), ((c : Thread nD τ).loc b) ↦{fullShare} f) : sProp 𝕄) := by
  iintro ⟨%f, H⟩
  iexists f
  iapply (Entails.of_eq (owns_whole (c : Thread nD τ) b fullShare f)); iexact H

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show Pipeline.scopedRest cfg0.spec c = _ from scopedRest0_eq c]
  unfold Φ₀ held
  iintro ⟨Hs, -, H0, H1, H2, H3, H4⟩
  isplitl [Hs]; · iexact Hs
  isplitl [H0]; · iapply (whole_held (F := F) c cc0_scratch0); iexact H0
  isplitl [H1]; · iapply (whole_held (F := F) c cc0_scratch1); iexact H1
  isplitl [H2]; · iapply (whole_held (F := F) c cc0_scratch2); iexact H2
  isplitl [H3]; · iapply (whole_held (F := F) c cc0_scratch3); iexact H3
  iapply (whole_held (F := F) c cc0_scratch4); iexact H4

/-- What is read at the end of a device: its barrier's counter and its copy of `b`. -/
def left (c : Dev nD) : sProp 𝕄 := iprop(unscopedSems0 c ∗ (((c : Thread nD τ).loc main_arg1) ↦{sh 8} (m ((c : Thread nD τ).loc main_arg1))))

theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = done m c from rfl, show Pipeline.scopedRest cfg0.spec c = _ from scopedRest0_eq c, ownSems0_eq]
  unfold left
  rw [unscopedSems0_eq]
  unfold done held
  iintro ⟨⟨H0, H1, H2, H3, H4⟩, Hbar, Hcells, Hb⟩
  isplitl [Hbar Hb]
  · isplitl [Hbar] <;> iassumption
  isplitl [Hcells]; · iexact Hcells
  isplitl [H0]; · iapply (held_whole (F := F) c cc0_scratch0); iexact H0
  isplitl [H1]; · iapply (held_whole (F := F) c cc0_scratch1); iexact H1
  isplitl [H2]; · iapply (held_whole (F := F) c cc0_scratch2); iexact H2
  isplitl [H3]; · iapply (held_whole (F := F) c cc0_scratch3); iexact H3
  iapply (held_whole (F := F) c cc0_scratch4); iexact H4

theorem left_read (c : Dev nD) (s' : Phys nD τ sig (Elt F)) :
    iprop(left m c ∗ emp ∗ SI s') ⊢ |={Set.univ}=> iprop(⌜(∀ sm : SemLoc sig, sm.isScoped .tc = false → s'.mem.sem ((c.tc : Thread nD τ), sm) = 0)
        ∧ s'.mem.mem ((c : Thread nD τ).loc main_arg1) = m ((c : Thread nD τ).loc main_arg1)⌝ ∗ (SI s' : sProp 𝕄)) := by
  unfold left
  iintro ⟨⟨Hu, Hb⟩, -, HSI⟩
  icombine HSI Hb gives %hb
  imod (Pipeline.unscopedSems0_read (X := unscopedSems0 c) (c := c) fupd_intro s') $$ [Hu HSI] with ⟨%hu, HSI⟩
  · isplitl [Hu] <;> iassumption
  imodintro
  isplitr
  · ipureintro
    exact ⟨hu, funext fun i => hb i (Finset.mem_univ i)⟩
  iexact HSI

theorem waits (c : Dev nD) : (levAts L lv : sProp 𝕄) ⊢ Pipeline.cellsWaits cfgs (dats m) () 0 c :=
  Pipeline.cellsWaits_intro cfgs (dats m) () 0 c fun w s t => by
    have hl : lv ((c : Thread nD τ), .dma ((cfg0.win w).sem s)) () = 0 := by fin_cases w <;> fin_cases s <;> rfl
    rcases t with ⟨_ | _, ht⟩
    · exact mayWait_low c hl 0 0 0
    · exact (mayWait_low c hl 7 7 7).trans (by rw [owed_done]; exact Entails.refl _)

/-! ## The run -/

def finalA (c : Dev nD) (w : Fin cfg0.W) : Buf (Elt F) ((cfg0.win w).arr.view.loc (c : Thread nD τ)) := (dats m 0 c).arrAt w cfg0.N

def Ends (r : PUnit × MemSt nD τ sig (Elt F)) : Prop :=
  (∀ c : Dev nD, (∀ w : Fin cfg0.W, r.2.mem ((cfg0.win w).arr.view.loc (c : Thread nD τ)) = finalA m c w)
    ∧ r.2.mem ((c : Thread nD τ).loc main_arg1) = m ((c : Thread nD τ).loc main_arg1)) ∧ r.2.sem = fun _ => 0

set_option maxRecDepth 8000 in
theorem run_main : θ_run defs (onTc (τ := τ) (main (F := F))) ⟨m, fun _ => 0, ρ⟩ (Ends m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := left_read m)
    (hQ := fun _ h hs => ⟨fun c => ⟨fun w => (h c).1 w, (h c).2.2.2⟩, sem_eq_zero hs fun c => (h c).2.2.1⟩)

/-- The rows of `x` after the run are what they were. -/
theorem finalA_x (c : Dev nD) : finalA m c (0 : Fin 2) = m ((c : Thread nD τ).loc main_arg0) :=
  (dats (F := F) m 0 c).arrAt_in (0 : Fin 2) rfl _

end Cert.Exchange

end
-- ==== Proof.Arith.lean ====
/-
The quantiser on extended reals. The kernel multiplies by `127 / a` before rounding and divides nothing after; the reference
divides by `a / 127`. For values and a maximum that are not negative the two give the same number, at the infinities and at
a maximum of zero too.
-/
module

public import Idealize.ShloMosaic.Lib.IdealHost
public import Idealize.ShloMosaic.Lib.MatmulPlain
public import Idealize.ShloMosaic.Lib.StackMember
public import Idealize.ShloMosaic.PureOps.Reduce

@[expose] public section

noncomputable section

namespace Cert.Exchange.Arith

open Idealize.ShloMosaic

/-- Rounding to nearest, ties to even, of an extended real. -/
abbrev rnd (x : EReal) : EReal := Ideal.liftRound Ideal.roundHalfEven x

theorem pos127 : (0 : EReal) < ((127 : ℝ) : EReal) := by exact_mod_cast (by norm_num : (0 : ℝ) < 127)

theorem ofBits_127 : Ideal.ofBits .f32 0x42FE0000#32 = ((127 : ℝ) : EReal) := by
  simp [Ideal.ofBits, Ideal.ieee, -EReal.coe_mul]; norm_num
theorem ofBits_neg127 : Ideal.ofBits .f32 0xC2FE0000#32 = ((-127 : ℝ) : EReal) := by
  simp [Ideal.ofBits, Ideal.ieee, -EReal.coe_mul, -EReal.coe_neg]; norm_num
theorem ofBits_bot : Ideal.ofBits .f32 0xFF800000#32 = ⊥ := by
  simp [Ideal.ofBits, Ideal.ieee]

theorem rnd_nonneg {x : EReal} (h : 0 ≤ x) : 0 ≤ rnd x := by
  induction x with
  | bot => exact absurd h (by simp)
  | top => exact le_top
  | coe r =>
    have hr : 0 ≤ r := by exact_mod_cast h
    have hf : 0 ≤ ⌊r⌋ := Int.floor_nonneg.mpr hr
    show (0 : EReal) ≤ (((Ideal.roundHalfEven r : ℤ) : ℝ) : EReal)
    have : 0 ≤ Ideal.roundHalfEven r := by
      unfold Ideal.roundHalfEven
      dsimp only
      split_ifs <;> omega
    exact_mod_cast this

/-- The kernel's quantised value times the scale is the reference's. -/
theorem quant {y a : EReal} (hy : 0 ≤ y) (ha : 0 ≤ a) :
    min ((127 : ℝ) : EReal) (max 0 (rnd (y * Ideal.div ((127 : ℝ) : EReal) a))) * Ideal.div a ((127 : ℝ) : EReal)
      = min ((127 : ℝ) : EReal) (max ((-127 : ℝ) : EReal) (rnd (Ideal.div y (Ideal.div a ((127 : ℝ) : EReal))))) * Ideal.div a ((127 : ℝ) : EReal) := by
  have h127 : ((127 : ℝ) : EReal) ≠ 0 := pos127.ne'
  rcases ha.eq_or_lt with rfl | ha
  · have : Ideal.div 0 ((127 : ℝ) : EReal) = 0 := by unfold Ideal.div; rw [if_neg h127, zero_mul]
    rw [this, mul_zero, mul_zero]
  have hs : Ideal.div a ((127 : ℝ) : EReal) = a * (((127 : ℝ) : EReal))⁻¹ := by unfold Ideal.div; rw [if_neg h127]
  have hs0 : Ideal.div a ((127 : ℝ) : EReal) ≠ 0 := by
    rw [hs, ← EReal.coe_inv]
    exact (EReal.mul_pos ha (by exact_mod_cast (by norm_num : (0 : ℝ) < 127⁻¹))).ne'
  have hi : Ideal.div ((127 : ℝ) : EReal) a = ((127 : ℝ) : EReal) * a⁻¹ := by unfold Ideal.div; rw [if_neg ha.ne']
  have hd : Ideal.div y (Ideal.div a ((127 : ℝ) : EReal)) = y * Ideal.div ((127 : ℝ) : EReal) a := by
    have e : (((127 : ℝ) : EReal)⁻¹)⁻¹ = ((127 : ℝ) : EReal) := by rw [← EReal.coe_inv, ← EReal.coe_inv, inv_inv]
    have ho : Ideal.div y (Ideal.div a ((127 : ℝ) : EReal)) = y * (Ideal.div a ((127 : ℝ) : EReal))⁻¹ := if_neg hs0
    rw [ho, hs, hi, EReal.mul_inv, e, mul_comm (a⁻¹)]
  rw [hd]
  have hz : 0 ≤ y * Ideal.div ((127 : ℝ) : EReal) a := by
    rw [hi]; exact EReal.mul_nonneg hy (EReal.mul_nonneg pos127.le (EReal.inv_nonneg_of_nonneg ha.le))
  have hr := rnd_nonneg hz
  rw [max_eq_right hr, max_eq_right ((by exact_mod_cast (by norm_num : (-127 : ℝ) ≤ 0) : ((-127 : ℝ) : EReal) ≤ 0).trans hr)]

theorem abs_nonneg {x : EReal} (h : 0 ≤ x) : FloatOps.absf (F := Ideal) (φ := .f32) x = x :=
  max_eq_left ((EReal.neg_le_zero.mpr h).trans h)

end Cert.Exchange.Arith

end
-- ==== Proof.Values.lean ====
/-
The result at the ideal values: the kernel's result array on device `c` is block `c`, along the columns, of the reference's.
A device's products are the reference's product read at the rows it holds and the columns of a chunk; the maximum over the
devices of the maxima over their chunks is the reference's maximum over the whole product; the quantiser is `Arith.quant`.
-/
module

public import proofs.«01_k».proof.Proof.Run
public import proofs.«01_k».proof.Proof.Arith
public import proofs.«01_k».proof.Proof.Gen.ReferenceIdeal.Run

@[expose] public section

noncomputable section

namespace Cert.Exchange.Values

open Cert.KernelIdeal Cert.KernelIdeal.Gen Cert.Exchange Cert.Exchange.Arith
open Idealize.ShloMosaic Idealize.ShloMosaic.TcCoe Idealize.ShloMosaic.ValueIdx

/-! ## The product -/

/-- The reference's product with its negative part cut off, at a row and a column. -/
def relu (A : (⟨2, ![4096, 4096]⟩ : Shape).Idx → EReal) (B : S4096x2048.Idx → EReal) (i : S4096x2048.Idx) : EReal :=
  max (∑ k : Fin 4096, A (ix2 (i 0) k) * B (ix2 k (i 1))) 0

theorem relu_nonneg (A B i) : 0 ≤ relu A B i := le_max_right _ _

variable (m : (ℓ : Loc nD τ sig) → Buf (Elt Ideal) ℓ)

/-- The rows of `x` a device holds, and its copy of `b`. -/
abbrev rowsOf (c : Dev nD) : S512x4096.Idx → EReal := m ((c : Thread nD τ).loc main_arg0)
abbrev bOf (c : Dev nD) : S4096x2048.Idx → EReal := m ((c : Thread nD τ).loc main_arg1)

theorem xval_eq (c : Dev nD) : xval m c = rowsOf m c := by
  funext j
  show m ((c : Thread nD τ).loc main_arg0) _ = m ((c : Thread nD τ).loc main_arg0) j
  congr 1
  funext a
  apply Fin.ext
  match a with
  | ⟨0, _⟩ => show 0 * 512 + 1 * (0 + 1 * (j 0).val) = (j 0).val; omega
  | ⟨1, _⟩ => show 0 * 4096 + 1 * (0 + 1 * (j 1).val) = (j 1).val; omega

theorem bchunk_at (c d : Dev nD) (k : Fin 4096) (q : Fin 256) :
    bchunk m c d (ix2 k q) = bOf m c (ix2 k ⟨256 * d.val + q.val, by have h : d.val < 8 := d.isLt; omega⟩) := by
  show m ((c : Thread nD τ).loc main_arg1) _ = m ((c : Thread nD τ).loc main_arg1) _
  congr 1
  funext a
  apply Fin.ext
  match a with
  | ⟨0, _⟩ => show 0 + 1 * k.val = k.val; omega
  | ⟨1, _⟩ => show 256 * d.val + 1 * q.val = 256 * d.val + q.val; omega

theorem unstage (c d : Dev nD) : shapeCast S4096x256 (wval m c d) shapeCasts_S1x4096x256_S4096x256 = bchunk m c d := by
  funext j
  exact congrArg (bchunk m c d) (Equiv.symm_apply_apply _ j)

/-- A device's product with a chunk, its negative part cut off. -/
abbrev part (c d : Dev nD) : S512x256.Idx → EReal := k0_pay10 (xval m c) (wval m c d)

theorem part_at (c d : Dev nD) (r : Fin 512) (q : Fin 256) :
    part m c d (ix2 r q) = max (∑ k : Fin 4096, rowsOf m c (ix2 r k) * bOf m c (ix2 k ⟨256 * d.val + q.val, by have h : d.val < 8 := d.isLt; omega⟩)) 0 := by
  unfold part k0_pay10
  rw [unstage, shapeCast_self, xval_eq]
  show max (FloatOps.matmul (F := Ideal) (DotDims.plain 512 4096 256) none (rowsOf m c : FVec Ideal S512x4096 .f32) (bchunk m c d : FVec Ideal S4096x256 .f32) (constant S512x256 .f32 0x00000000#32) (ix2 r q)) (Ideal.ofBits .f32 0x00000000#32) = _
  rw [Ideal.matmul_plain_apply]
  show max (Ideal.ofBits .f32 0x00000000#32 + _) (Ideal.ofBits .f32 0x00000000#32) = _
  rw [Ideal.ofBits_zero_f32, zero_add]
  exact congrArg (fun s => max s 0) (Finset.sum_congr rfl fun k _ => by rw [bchunk_at])

/-- Narrowing changes no extended real, and the added axis of length one is dropped again. -/
theorem shapeCast_there_back (y : FVec Ideal S512x256 .f32) :
    shapeCast S512x256 (shapeCast S1x512x256 (truncf .bf16 y bitsLt_bf16_f32 : FVec Ideal S512x256 .bf16) shapeCasts_S512x256_S1x512x256) shapeCasts_S1x512x256_S512x256 = y := by
  rw [shapeCast_shapeCast]
  rfl

theorem V_back (c d : Dev nD) (j : S512x256.Idx) :
    shapeCast S512x256 (V m c d) shapeCasts_S1x512x256_S512x256 j = part m c d j := by
  have h : V m c d = shapeCast S1x512x256 (truncf .bf16 (k0_pay10 (xval m c) (wval m c d)) bitsLt_bf16_f32 : FVec Ideal S512x256 .bf16) shapeCasts_S512x256_S1x512x256 := by
    unfold V k0_pay12; rfl
  rw [h]
  unfold part
  generalize k0_pay10 (xval m c) (wval m c d) = y
  exact (congrFun (shapeCast_there_back y) j)

/-! ## The maximum -/

instance : Std.Commutative (FloatOps.maximumf (F := Ideal) (φ := .f32)) := ⟨fun a b => max_comm (α := EReal) a b⟩
instance : Std.Associative (FloatOps.maximumf (F := Ideal) (φ := .f32)) := ⟨fun a b c => max_assoc (α := EReal) a b c⟩

/-- A value that grows to the larger of itself and another, step by step, stays below a bound when it starts below it and
    each other does. -/
theorem steps_le {f : ℕ → EReal} {P : ℕ → Prop} {b : EReal} (h : ∀ s, f (s + 1) ≤ b ↔ f s ≤ b ∧ P s) (n : ℕ) : f n ≤ b ↔ f 0 ≤ b ∧ ∀ s < n, P s := by
  induction n with
  | zero => simp
  | succ n ih =>
    rw [h, ih, and_assoc]
    refine and_congr_right fun _ => ⟨fun h s hs => ?_, fun h => ⟨fun s hs => h s (hs.trans (Nat.lt_succ_self n)), h n (Nat.lt_succ_self n)⟩⟩
    rcases Nat.lt_succ_iff_lt_or_eq.mp hs with h1 | rfl
    · exact h.1 s h1
    · exact h.2

/-- The maximum of a block, read at its one index, is below a bound when every element is. -/
theorem blockMax_le (src : FVec Ideal S1x512x256 .f32) (j : S1.Idx) (b : EReal) :
    (multiReduction (F := Ideal) .maximumf [1, 2] S1 src 0xFF800000#32 reduces_S1x512x256_S1 (.inl rfl) rfl j : EReal) ≤ b ↔ ∀ i, (src i : EReal) ≤ b := by
  haveI : Subsingleton S1.Idx := ⟨fun x y => by
    funext a
    apply Fin.ext
    match a with
    | ⟨0, _⟩ => have hx : (x 0).val < 1 := (x 0).isLt; have hy : (y 0).val < 1 := (y 0).isLt; show (x 0).val = (y 0).val; omega⟩
  refine (iff_of_eq (congrArg (fun z : EReal => z ≤ b) (multiReduction_maximumf_eq_fold (F := Ideal) src 0xFF800000#32 reduces_S1x512x256_S1 (.inl rfl) rfl j))).trans ?_
  refine (Finset.fold_max_le (α := S1x512x256.Idx) (β := EReal) b).trans ?_
  rw [show (FloatOps.ofBits (F := Ideal) .f32 0xFF800000#32 : EReal) = ⊥ from ofBits_bot]
  exact ⟨fun h i => h.2 i (Finset.mem_filter.mpr ⟨Finset.mem_univ _, Subsingleton.elim _ _⟩), fun h => ⟨bot_le, fun i _ => h i⟩⟩

theorem pay11_le (v : EReal) (x : Vec Ideal S512x4096 .f32) (w : Vec Ideal S1x4096x256 .f32) (b : EReal) :
    (k0_pay11 (F := Ideal) v x w : EReal) ≤ b ↔ v ≤ b ∧ ∀ i : S512x256.Idx, (k0_pay10 x w i : EReal) ≤ b := by
  unfold k0_pay11
  generalize k0_pay10 x w = y
  dsimp only
  rw [Ideal.scalar_maximumf_def, max_le_iff]
  refine and_congr_right fun _ => ?_
  unfold extractAt
  rw [shapeCast]
  rw [blockMax_le]
  constructor
  · intro h i
    obtain ⟨j, hj⟩ := (Shape.reshapeEquiv (s := S512x256) (s' := S1x512x256) shapeCasts_S512x256_S1x512x256).surjective i
    rw [← hj]
    exact h j
  · exact fun h j => h _

theorem maxTo_le (c : Dev nD) (t : ℕ) (b : EReal) :
    (maxTo m c t : EReal) ≤ b ↔ 0 ≤ b ∧ ∀ s < t, ∀ i, part m c (peer c s) i ≤ b := by
  have h0 : (maxTo m c 0 : EReal) = 0 := Ideal.ofBits_zero_f32
  rw [← h0]
  exact steps_le (f := fun t => (maxTo m c t : EReal)) (P := fun s => ∀ i, part m c (peer c s) i ≤ b) (fun s => pay11_le (maxTo m c s) (xval m c) (wval m c (peer c s)) b) t

theorem amx_le (c : Dev nD) (b : EReal) : (amx m c : EReal) ≤ b ↔ 0 ≤ b ∧ ∀ d i, part m c d i ≤ b := by
  unfold amx
  rw [maxTo_le]
  refine and_congr_right fun _ => ⟨fun h d => ?_, fun h s _ => h _⟩
  obtain ⟨k, hk, rfl⟩ := exists_peer c d
  exact h k hk

/-- The maximum of a device's value and of every device's value is below a bound when each is. -/
theorem over_all_le {a : Dev nD → EReal} {f : ℕ → EReal} {c : Dev nD} (h0 : f 0 = a c) (h : ∀ s, f (s + 1) = max (f s) (a (dv s))) (b : EReal) :
    f 8 ≤ b ↔ ∀ e, a e ≤ b := by
  rw [steps_le (P := fun s => a (dv s) ≤ b) (fun s => by rw [h, max_le_iff]) 8, h0]
  refine ⟨fun hs e => ?_, fun hs => ⟨hs c, fun s _ => hs _⟩⟩
  have he : e.val < 8 := e.isLt
  rw [← dv_val e]
  exact hs.2 e.val he

theorem gmax_le (c : Dev nD) (b : EReal) : (gmaxTo m c 8 : EReal) ≤ b ↔ 0 ≤ b ∧ ∀ e d i, part m e d i ≤ b := by
  rw [over_all_le (a := fun e => (amx m e : EReal)) (f := fun s => (gmaxTo m c s : EReal)) (c := c) (by simp only [gmaxTo]) (fun s => by simp only [gmaxTo]; exact Ideal.scalar_maximumf_def _ _)]
  refine ⟨fun h => ⟨((amx_le m c b).mp (h c)).1, fun e => ((amx_le m e b).mp (h e)).2⟩, fun h e => (amx_le m e b).mpr ⟨h.1, h.2 e⟩⟩

/-! ## The kernel's result array -/

theorem finalA_out (c : Dev nD) : finalA m c (1 : Fin 2) = outAll m c := by
  refine (dats m 0 c).arrAt_eq_of_cover (1 : Fin 2) (outAll m c) (fun t _ => ?_) fun i => ⟨t0_0, flush0_1 _, ?_⟩
  · obtain rfl := fin_N0 t
    funext j
    show outAll m c _ = outAll m c _
    congr 1
    funext a
    apply Fin.ext
    match a with
    | ⟨0, _⟩ => show (j 0).val = 0 * 4096 + 1 * (j 0).val; omega
    | ⟨1, _⟩ => show (j 1).val = 0 * 256 + 1 * (j 1).val; omega
  · have e : ((cfg0.win (1 : Fin 2)).blk t0_0).view.emb i = i := by
      funext a
      apply Fin.ext
      match a with
      | ⟨0, _⟩ => show 0 * 4096 + 1 * (i 0).val = (i 0).val; omega
      | ⟨1, _⟩ => show 0 * 256 + 1 * (i 1).val = (i 1).val; omega
    have h := View.emb_mem_set ((cfg0.win (1 : Fin 2)).blk t0_0).view i
    exact e ▸ h

/-- One element of the quantised result: the value `y`, the maximum `a`. -/
def quantised (y a : EReal) : EReal :=
  min ((127 : ℝ) : EReal) (max 0 (rnd (y * Ideal.div ((127 : ℝ) : EReal) a))) * Ideal.div a ((127 : ℝ) : EReal)

theorem pay38_at (i s : EReal) (v : Vec Ideal S1x512x256 .bf16) (j : S512x256.Idx) :
    (k0_pay38 (F := Ideal) i s v j : EReal) = min (Ideal.ofBits .f32 0x42FE0000#32)
      (max (Ideal.ofBits .f32 0x00000000#32) (rnd ((shapeCast S512x256 v shapeCasts_S1x512x256_S512x256 j : EReal) * i))) * s := by
  unfold k0_pay38
  generalize shapeCast S512x256 v shapeCasts_S1x512x256_S512x256 = y
  rfl

theorem quantised_eq (y i s a : EReal) (hi : i = Ideal.div (Ideal.ofBits .f32 0x42FE0000#32) a) (hs : s = Ideal.div a (Ideal.ofBits .f32 0x42FE0000#32)) :
    min (Ideal.ofBits .f32 0x42FE0000#32) (max (Ideal.ofBits .f32 0x00000000#32) (rnd (y * i))) * s = quantised y a := by
  rw [quantised, ← ofBits_127, hi, hs, Ideal.ofBits_zero_f32]

/-- The kernel's two factors, of any maximum. -/
theorem factor_inv (g : EReal) : (Scalar.divf (F := Ideal) (φ := .f32) (Scalar.ofBits .f32 0x42FE0000#32) g : EReal) = Ideal.div (Ideal.ofBits .f32 0x42FE0000#32) g := rfl
theorem factor_scale (g : EReal) : (Scalar.divf (F := Ideal) (φ := .f32) g (Scalar.ofBits .f32 0x42FE0000#32) : EReal) = Ideal.div g (Ideal.ofBits .f32 0x42FE0000#32) := rfl

theorem outV_at (c d : Dev nD) (j : S512x256.Idx) : (outV m c d j : EReal) = quantised (part m d c j) (gmaxTo m c 8) :=
  ((pay38_at (inv m c) (scale m c) (V m d c) j).trans
    (quantised_eq _ (inv m c) (scale m c) (gmaxTo m c 8) (factor_inv (gmaxTo m c 8)) (factor_scale (gmaxTo m c 8)))).trans
    (congrArg (fun y => quantised y (gmaxTo m c 8)) (V_back m d c j))

/-- Element `(i, j)` of device `c`'s result is made by device `i / 512`'s rows. -/
theorem outAll_eq (c : Dev nD) (i : S4096x256.Idx) :
    (outAll m c i : EReal) = quantised (part m (dv ((i 0).val / 512)) c (ix2 ⟨(i 0).val % 512, Nat.mod_lt _ (by decide)⟩ (i 1))) (gmaxTo m c 8) := by
  have h0 : (i 0).val < 4096 := (i 0).isLt
  rw [← outV_at, ← outAll_at m c ⟨(i 0).val / 512, by omega⟩]
  congr 1
  funext a
  apply Fin.ext
  match a with
  | ⟨0, _⟩ => show (i 0).val = 512 * ((i 0).val / 512 % 8) + 1 * ((i 0).val % 512); omega
  | ⟨1, _⟩ => show (i 1).val = 0 + 1 * (i 1).val; omega

/-! ## The reference's -/

section Whole

variable (A : (⟨2, ![4096, 4096]⟩ : Shape).Idx → EReal) (B : S4096x2048.Idx → EReal)

/-- The reference's product with its negative part cut off, as the reference computes it. -/
abbrev refRelu : FVec Ideal Cert.ReferenceIdeal.S4096x2048 .f32 :=
  maximumf (Host.dotGeneral (F := Ideal) (φ₁ := .f32) (φ₂ := .f32) Cert.ReferenceIdeal.dot_S4096x4096_S4096x2048_S4096x2048_1_0_0_1_n_n none A B)
    (broadcastInDim Cert.ReferenceIdeal.S4096x2048 ![] Cert.ReferenceIdeal.Gen.bcast_S_S4096x2048 (constant Cert.ReferenceIdeal.S_ .f32 0x00000000#32))

theorem refRelu_eq : refRelu A B = relu A B := by
  funext i
  obtain ⟨r, q, rfl⟩ : ∃ (r : Fin 4096) (q : Fin 2048), i = ix2 r q := ⟨i 0, i 1, eq_ix2 i⟩
  show max (Host.dotGeneral (F := Ideal) (φ₁ := .f32) (φ₂ := .f32) (DotDims.plain 4096 4096 2048) none A B (ix2 r q) : EReal) (Ideal.ofBits .f32 0x00000000#32) = _
  rw [StackMember.dotGeneral_plain_apply, Ideal.ofBits_zero_f32]
  rfl

/-- The reference's maximum of absolute values. -/
abbrev refMax (y : FVec Ideal Cert.ReferenceIdeal.S4096x2048 .f32) : FVec Ideal Cert.ReferenceIdeal.S_ .f32 :=
  Host.reduce FloatOps.maximumf (Host.absf y) (constant Cert.ReferenceIdeal.S_ .f32 0xFF800000#32) Cert.ReferenceIdeal.Gen.reducesTo_S4096x2048_S_d0_1 Cert.ReferenceIdeal.Gen.h_S_

theorem refMax_le {y : FVec Ideal Cert.ReferenceIdeal.S4096x2048 .f32} (hy : ∀ i, (0 : EReal) ≤ y i) (j) (b : EReal) :
    (refMax y j : EReal) ≤ b ↔ ∀ i, (y i : EReal) ≤ b := by
  refine (iff_of_eq (congrArg (fun z : EReal => z ≤ b) (Host.reduce_eq_fold (FloatOps.maximumf (F := Ideal) (φ := .f32)) _ _ _ _ j))).trans ?_
  refine (Finset.fold_max_le (β := EReal) b).trans ?_
  rw [show ((constant Cert.ReferenceIdeal.S_ .f32 0xFF800000#32 : FVec Ideal Cert.ReferenceIdeal.S_ .f32) (Shape.Idx.first Cert.ReferenceIdeal.Gen.h_S_) : EReal) = ⊥ from ofBits_bot]
  refine ⟨fun h i => (le_of_eq (abs_nonneg (hy i)).symm).trans (h.2 i (Finset.mem_filter.mpr ⟨Finset.mem_univ _, ?_⟩)), fun h => ⟨bot_le, fun i _ => (le_of_eq (abs_nonneg (hy i))).trans (h i)⟩⟩
  exact funext fun a => a.elim0

/-- The reference's result from the product and a maximum, and from its own. -/
abbrev refQuantBy (y : FVec Ideal Cert.ReferenceIdeal.S4096x2048 .f32) (r : FVec Ideal Cert.ReferenceIdeal.S_ .f32) : FVec Ideal Cert.ReferenceIdeal.S4096x2048 .f32 :=
  mulf (minimumf (broadcastInDim Cert.ReferenceIdeal.S4096x2048 ![] Cert.ReferenceIdeal.Gen.bcast_S_S4096x2048 (id (constant Cert.ReferenceIdeal.S_ .f32 0x42FE0000#32)))
      (maximumf (broadcastInDim Cert.ReferenceIdeal.S4096x2048 ![] Cert.ReferenceIdeal.Gen.bcast_S_S4096x2048 (id (constant Cert.ReferenceIdeal.S_ .f32 0xC2FE0000#32)))
        (Host.roundeven (Host.divf y (broadcastInDim Cert.ReferenceIdeal.S4096x2048 ![] Cert.ReferenceIdeal.Gen.bcast_S_S4096x2048 (Host.divf r (constant Cert.ReferenceIdeal.S_ .f32 0x42FE0000#32)))))))
    (broadcastInDim Cert.ReferenceIdeal.S4096x2048 ![] Cert.ReferenceIdeal.Gen.bcast_S_S4096x2048 (Host.divf r (constant Cert.ReferenceIdeal.S_ .f32 0x42FE0000#32)))
abbrev refQuant (y : FVec Ideal Cert.ReferenceIdeal.S4096x2048 .f32) : FVec Ideal Cert.ReferenceIdeal.S4096x2048 .f32 := refQuantBy y (refMax y)

theorem refQuantBy_at (y : FVec Ideal Cert.ReferenceIdeal.S4096x2048 .f32) (r : FVec Ideal Cert.ReferenceIdeal.S_ .f32) (i) :
    (refQuantBy y r i : EReal) = min (Ideal.ofBits .f32 0x42FE0000#32) (max (Ideal.ofBits .f32 0xC2FE0000#32) (rnd (Ideal.div (y i) (Ideal.div (r ix0) (Ideal.ofBits .f32 0x42FE0000#32)))))
      * Ideal.div (r ix0) (Ideal.ofBits .f32 0x42FE0000#32) := by
  have hb : ∀ x : FVec Ideal Cert.ReferenceIdeal.S_ .f32, broadcastInDim Cert.ReferenceIdeal.S4096x2048 ![] Cert.ReferenceIdeal.Gen.bcast_S_S4096x2048 x i = x ix0 :=
    fun x => broadcastInDim_scalar_apply _ x i
  show min (broadcastInDim Cert.ReferenceIdeal.S4096x2048 ![] Cert.ReferenceIdeal.Gen.bcast_S_S4096x2048 (id (constant Cert.ReferenceIdeal.S_ .f32 0x42FE0000#32) : FVec Ideal Cert.ReferenceIdeal.S_ .f32) i : EReal)
      (max (broadcastInDim Cert.ReferenceIdeal.S4096x2048 ![] Cert.ReferenceIdeal.Gen.bcast_S_S4096x2048 (id (constant Cert.ReferenceIdeal.S_ .f32 0xC2FE0000#32) : FVec Ideal Cert.ReferenceIdeal.S_ .f32) i)
        (rnd (Ideal.div (y i) (broadcastInDim Cert.ReferenceIdeal.S4096x2048 ![] Cert.ReferenceIdeal.Gen.bcast_S_S4096x2048 (Host.divf r (constant Cert.ReferenceIdeal.S_ .f32 0x42FE0000#32)) i))))
      * broadcastInDim Cert.ReferenceIdeal.S4096x2048 ![] Cert.ReferenceIdeal.Gen.bcast_S_S4096x2048 (Host.divf r (constant Cert.ReferenceIdeal.S_ .f32 0x42FE0000#32)) i = _
  rw [hb, hb, hb]
  rfl

theorem refQuant_at {y : FVec Ideal Cert.ReferenceIdeal.S4096x2048 .f32} (hy : ∀ i, (0 : EReal) ≤ y i) (i) :
    (refQuant y i : EReal) = quantised (y i) (refMax y ix0) := by
  have h0 : (0 : EReal) ≤ refMax y ix0 := (hy i).trans (((refMax_le hy ix0 _).mp le_rfl) i)
  unfold quantised
  rw [quant (hy i) h0, ← ofBits_127, ← ofBits_neg127]
  exact refQuantBy_at y _ i

end Whole

/-! ## The two compared -/

variable {m} {A : (⟨2, ![4096, 4096]⟩ : Shape).Idx → EReal} {B : S4096x2048.Idx → EReal}

/-- Each device holds its block of the rows of `x`, and all of `b`. -/
def Dealt (m : (ℓ : Loc nD τ sig) → Buf (Elt Ideal) ℓ) (A : (⟨2, ![4096, 4096]⟩ : Shape).Idx → EReal) (B : S4096x2048.Idx → EReal) : Prop :=
  ∀ c : Dev nD, rowsOf m c = Layout.block ⟨2, ![512, 4096]⟩ ⟨2, ![4096, 4096]⟩ 0 8 c A ∧ bOf m c = B

theorem part_relu (h : Dealt m A B) (e d : Dev nD) (r : Fin 512) (q : Fin 256) :
    part m e d (ix2 r q) = relu A B (ix2 ⟨512 * e.val + r.val, by have h : e.val < 8 := e.isLt; omega⟩ ⟨256 * d.val + q.val, by have h : d.val < 8 := d.isLt; omega⟩) := by
  rw [part_at, (h e).1, (h e).2]
  unfold relu
  refine congrArg (fun s => max s 0) (Finset.sum_congr rfl fun k _ => congrArg (· * _) ?_)
  show A _ = A _
  congr 1
  funext a
  apply Fin.ext
  match a with
  | ⟨0, _⟩ => show e.val * 512 + r.val = 512 * e.val + r.val; omega
  | ⟨1, _⟩ => rfl

theorem gmax_eq (h : Dealt m A B) (c : Dev nD) : (gmaxTo m c 8 : EReal) = refMax (relu A B) ix0 := by
  refine eq_of_forall_ge_iff fun b => ?_
  rw [gmax_le, refMax_le (relu_nonneg A B)]
  constructor
  · rintro ⟨-, hp⟩ i
    have h0 : (i 0).val < 4096 := (i 0).isLt
    have h1 : (i 1).val < 2048 := (i 1).isLt
    have := hp (dv ((i 0).val / 512)) (dv ((i 1).val / 256)) (ix2 ⟨(i 0).val % 512, Nat.mod_lt _ (by decide)⟩ ⟨(i 1).val % 256, Nat.mod_lt _ (by decide)⟩)
    rw [part_relu h] at this
    refine le_of_eq_of_le (congrArg (relu A B) ?_) this
    funext a
    apply Fin.ext
    match a with
    | ⟨0, _⟩ => show (i 0).val = 512 * ((i 0).val / 512 % 8) + (i 0).val % 512; omega
    | ⟨1, _⟩ => show (i 1).val = 256 * ((i 1).val / 256 % 8) + (i 1).val % 256; omega
  · intro hr
    refine ⟨(relu_nonneg A B (ix2 0 0)).trans (hr _), fun e d i => ?_⟩
    obtain ⟨r, q, rfl⟩ : ∃ (r : Fin 512) (q : Fin 256), i = ix2 r q := ⟨i 0, i 1, eq_ix2 i⟩
    rw [part_relu h]
    exact hr _

/-- Device `c`'s result array is block `c`, along the columns, of the reference's. -/
theorem result (h : Dealt m A B) (c : Dev nD) :
    finalA m c (1 : Fin 2) = Layout.block ⟨2, ![4096, 256]⟩ ⟨2, ![4096, 2048]⟩ 1 8 c (refQuant (refRelu A B)) := by
  rw [finalA_out, refRelu_eq]
  funext i
  rw [Layout.block_apply]
  refine (outAll_eq m c i).trans ((refQuant_at (relu_nonneg A B) _).trans ?_).symm
  rw [gmax_eq h]
  refine congrArg (fun y => quantised y (refMax (relu A B) ix0)) (((congrArg (relu A B) ?_)).trans (part_relu h _ c _ (i 1)).symm)
  have h0 : (i 0).val < 4096 := (i 0).isLt
  funext a
  apply Fin.ext
  match a with
  | ⟨0, _⟩ => show (i 0).val = 512 * ((i 0).val / 512 % 8) + (i 0).val % 512; omega
  | ⟨1, _⟩ => show c.val * 256 + (i 1).val = 256 * c.val + (i 1).val; omega

end Cert.Exchange.Values

end
-- ==== Proof.Same.lean ====
/-
The kernel and the idealized kernel have the same text, so their definitions are equal over any float values.
-/
module

public import proofs.«01_k».proof.Proof.Gen.Kernel
public import proofs.«01_k».proof.Proof.Gen.KernelIdeal

@[expose] public section

noncomputable section

namespace Cert.Exchange

open Idealize.ShloMosaic Idealize.SL.Sem

variable {F : FTy → Type} [FloatOps F]

/-- The bodies' labels: the only label is the pallas_call's body. -/
theorem same_bodies : Cert.Kernel.defs₀ (F := F) = Cert.KernelIdeal.defs₀ (F := F) := by
  refine congrArg Defs.onTc (funext fun l => funext fun a => ?_)
  match l, a with
  | 0, (t, s) => rfl
  | ⟨_ + 1, h⟩, _ => exact absurd h (Nat.not_lt.2 (Nat.le_add_left _ _))

/-- The whole programs' definitions. -/
theorem same_defs : Cert.Kernel.defs (F := F) = Cert.KernelIdeal.defs (F := F) :=
  congrArg (Pipeline.defs Cert.KernelIdeal.pcfgs) same_bodies

end Cert.Exchange

end
-- ==== Proof.lean ====
/-
The five claims, assembled. The kernel's run is `Cert.Exchange.run_main`, written once over any float values: the kernel's
own frame is its bit-exact instance, the idealized kernel's frame and the value claim are its instance at the extended
reals. The reference is host code alone, and its run is generated. That the two results agree is `Values.result`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Values
public import proofs.«01_k».proof.Proof.Same
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Exchange

/-- Over any float values the program terminates without fault from any memory, its arguments end unchanged, every
counter ends at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1))
      ∧ r.2.sem = fun _ => 0) :=
  (θ_run Cert.KernelIdeal.defs _ _).mono
    (fun _ h => ⟨fun c => ⟨((h.1 c).1 0).trans (finalA_x m c), (h.1 c).2⟩, h.2⟩) (run_main m ρ)

/-- The kernel's own frame: it has the idealized kernel's text, read at the bit-exact values. -/
theorem frame_kernel : Cert.quiescent_Kernel := by
  intro m ρ _
  rw [same_defs]
  exact frame_any (F := Bits) m ρ

/-- The idealized kernel's frame. -/
theorem frame_kernelIdeal : Cert.quiescent_KernelIdeal := fun m ρ _ => frame_any (F := Ideal) m ρ

/-- The same of the reference, which declares no semaphore. -/
theorem frame_referenceIdeal : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- Over the extended reals each device's result is its block of columns of the reference's result. -/
theorem algebraic : Cert.algebraic_KernelIdeal_ReferenceIdeal := fun m ρ m' ρ' _ hm =>
  ⟨Values.refQuant (Values.refRelu
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))),
    (θ_run Cert.KernelIdeal.defs _ _).mono
      (fun _ h c => ⟨((h.1 c).1 1).trans (Values.result hm c), ((h.1 c).1 0).trans (finalA_x m c), (h.1 c).2⟩)
      (run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
